-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_RaggedIdeal (m : (ℓ : Loc Cert.RaggedIdeal.nD Cert.RaggedIdeal.τ Cert.RaggedIdeal.sig) → Buf (Elt Ideal) ℓ) : Prop :=
  True

def Pre_RaggedIdeal_fits_RaggedIdeal [hPre_fits_RaggedIdeal : Cert.Pre_fits_RaggedIdeal.Facts] (m : (ℓ : Loc Cert.RaggedIdeal.nD Cert.RaggedIdeal.τ Cert.RaggedIdeal.sig) → Buf (Elt Ideal) ℓ) : Prop :=
  ∀ c : Dev Cert.RaggedIdeal.nD,
    (Cert.Pre_fits_RaggedIdeal.fn (F := Ideal) (m ((c.tc : Thread Cert.RaggedIdeal.nD Cert.RaggedIdeal.τ).loc Cert.RaggedIdeal.main_arg0)) (m ((c.tc : Thread Cert.RaggedIdeal.nD Cert.RaggedIdeal.τ).loc Cert.RaggedIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_RaggedIdeal [hPre_fits_RaggedIdeal : Cert.Pre_fits_RaggedIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_RaggedIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_RaggedIdeal [hRaggedIdeal : Cert.RaggedIdeal.Facts] : Prop :=
  ∀ (m : (ℓ : Loc Cert.RaggedIdeal.nD Cert.RaggedIdeal.τ Cert.RaggedIdeal.sig) → Buf (Elt Ideal) ℓ) (g : Dev Cert.RaggedIdeal.nD → PrngReg), Pre_RaggedIdeal m →
    θ_run (Cert.RaggedIdeal.defs (F := Ideal)) (onTc (τ := Cert.RaggedIdeal.τ) (Cert.RaggedIdeal.main (F := Ideal))) ⟨m, fun _ => 0, g⟩ (fun r => (∀ c : Dev Cert.RaggedIdeal.nD,
      r.2.mem ((c.tc : Thread Cert.RaggedIdeal.nD Cert.RaggedIdeal.τ).loc Cert.RaggedIdeal.main_arg0) = m ((c.tc : Thread Cert.RaggedIdeal.nD Cert.RaggedIdeal.τ).loc Cert.RaggedIdeal.main_arg0)
      ∧ r.2.mem ((c.tc : Thread Cert.RaggedIdeal.nD Cert.RaggedIdeal.τ).loc Cert.RaggedIdeal.main_arg1) = m ((c.tc : Thread Cert.RaggedIdeal.nD Cert.RaggedIdeal.τ).loc Cert.RaggedIdeal.main_arg1))
      ∧ r.2.sem = fun _ => 0)

def quiescent_RaggedIdeal_pre_fits_RaggedIdeal [hRaggedIdeal : Cert.RaggedIdeal.Facts] [hPre_fits_RaggedIdeal : Cert.Pre_fits_RaggedIdeal.Facts] : Prop :=
  ∀ (m : (ℓ : Loc Cert.RaggedIdeal.nD Cert.RaggedIdeal.τ Cert.RaggedIdeal.sig) → Buf (Elt Ideal) ℓ) (g : Dev Cert.RaggedIdeal.nD → PrngReg), Pre_RaggedIdeal_fits_RaggedIdeal m →
    θ_run (Cert.RaggedIdeal.defs (F := Ideal)) (onTc (τ := Cert.RaggedIdeal.τ) (Cert.RaggedIdeal.main (F := Ideal))) ⟨m, fun _ => 0, g⟩ (fun r => (∀ c : Dev Cert.RaggedIdeal.nD,
      r.2.mem ((c.tc : Thread Cert.RaggedIdeal.nD Cert.RaggedIdeal.τ).loc Cert.RaggedIdeal.main_arg0) = m ((c.tc : Thread Cert.RaggedIdeal.nD Cert.RaggedIdeal.τ).loc Cert.RaggedIdeal.main_arg0)
      ∧ r.2.mem ((c.tc : Thread Cert.RaggedIdeal.nD Cert.RaggedIdeal.τ).loc Cert.RaggedIdeal.main_arg1) = m ((c.tc : Thread Cert.RaggedIdeal.nD Cert.RaggedIdeal.τ).loc Cert.RaggedIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fits_RaggedIdeal [hReferenceIdeal : Cert.ReferenceIdeal.Facts] [hPre_fits_RaggedIdeal : Cert.Pre_fits_RaggedIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_RaggedIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_RaggedIdeal_pre_fits_KernelIdeal [hKernelIdeal : Cert.KernelIdeal.Facts] [hRaggedIdeal : Cert.RaggedIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RaggedIdeal.nD Cert.RaggedIdeal.τ Cert.RaggedIdeal.sig) → Buf (Elt Ideal) ℓ) (g' : Dev Cert.RaggedIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.RaggedIdeal.nD).tc : Thread Cert.RaggedIdeal.nD Cert.RaggedIdeal.τ).loc Cert.RaggedIdeal.main_arg0))
      ∧ m ((c.tc : Thread Cert.KernelIdeal.nD Cert.KernelIdeal.τ).loc Cert.KernelIdeal.main_arg1) = Layout.block ⟨2, ![1024, 1]⟩ ⟨2, ![4096, 1]⟩ 0 4 c (m' (((0 : Dev Cert.RaggedIdeal.nD).tc : Thread Cert.RaggedIdeal.nD Cert.RaggedIdeal.τ).loc Cert.RaggedIdeal.main_arg1))) →
    ∃ (v0 : Buf (Elt Ideal) (((0 : Dev Cert.RaggedIdeal.nD).tc : Thread Cert.RaggedIdeal.nD Cert.RaggedIdeal.τ).loc Cert.RaggedIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.RaggedIdeal.defs (F := Ideal)) (onTc (τ := Cert.RaggedIdeal.τ) (Cert.RaggedIdeal.main (F := Ideal))) ⟨m', fun _ => 0, g'⟩ (fun r =>
          r.2.mem (((0 : Dev Cert.RaggedIdeal.nD).tc : Thread Cert.RaggedIdeal.nD Cert.RaggedIdeal.τ).loc Cert.RaggedIdeal.main_v46) = v0
          ∧ r.2.mem (((0 : Dev Cert.RaggedIdeal.nD).tc : Thread Cert.RaggedIdeal.nD Cert.RaggedIdeal.τ).loc Cert.RaggedIdeal.main_arg0) = m' (((0 : Dev Cert.RaggedIdeal.nD).tc : Thread Cert.RaggedIdeal.nD Cert.RaggedIdeal.τ).loc Cert.RaggedIdeal.main_arg0)
          ∧ r.2.mem (((0 : Dev Cert.RaggedIdeal.nD).tc : Thread Cert.RaggedIdeal.nD Cert.RaggedIdeal.τ).loc Cert.RaggedIdeal.main_arg1) = m' (((0 : Dev Cert.RaggedIdeal.nD).tc : Thread Cert.RaggedIdeal.nD Cert.RaggedIdeal.τ).loc Cert.RaggedIdeal.main_arg1))

def algebraic_KernelIdeal_ReferenceIdeal_on_balanced_pre_fits_KernelIdeal [hKernelIdeal : Cert.KernelIdeal.Facts] [hReferenceIdeal : Cert.ReferenceIdeal.Facts] [hPre_fits_KernelIdeal : Cert.Pre_fits_KernelIdeal.Facts] [hOn_balanced : Cert.On_balanced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1]⟩ ⟨2, ![4096, 1]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 512]⟩ : Shape).Idx, (Layout.block ⟨2, ![1024, 512]⟩ ⟨2, ![4096, 512]⟩ 0 4 c ((Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![1024, 512]⟩ : Shape).Idx → _) i = 1#1 → r.2.mem ((c.tc : Thread Cert.KernelIdeal.nD Cert.KernelIdeal.τ).loc Cert.KernelIdeal.main_v1) i = (Layout.block ⟨2, ![1024, 512]⟩ ⟨2, ![4096, 512]⟩ 0 4 c v0 : (⟨2, ![1024, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 512]⟩ : Shape).Idx, (Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hRaggedIdeal : Cert.RaggedIdeal.Facts) (hReferenceIdeal : Cert.ReferenceIdeal.Facts) (hPre_fits_KernelIdeal : Cert.Pre_fits_KernelIdeal.Facts) (hPre_fits_RaggedIdeal : Cert.Pre_fits_RaggedIdeal.Facts) (hOn_balanced : Cert.On_balanced.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_RaggedIdeal (hRaggedIdeal := hRaggedIdeal)
    ∧ quiescent_RaggedIdeal_pre_fits_RaggedIdeal (hRaggedIdeal := hRaggedIdeal) (hPre_fits_RaggedIdeal := hPre_fits_RaggedIdeal)
    ∧ quiescent_ReferenceIdeal (hReferenceIdeal := hReferenceIdeal)
    ∧ quiescent_ReferenceIdeal_pre_fits_RaggedIdeal (hReferenceIdeal := hReferenceIdeal) (hPre_fits_RaggedIdeal := hPre_fits_RaggedIdeal)
    ∧ preserves_Kernel_KernelIdeal
    ∧ algebraic_KernelIdeal_RaggedIdeal_pre_fits_KernelIdeal (hKernelIdeal := hKernelIdeal) (hRaggedIdeal := hRaggedIdeal) (hPre_fits_KernelIdeal := hPre_fits_KernelIdeal)
    ∧ algebraic_KernelIdeal_ReferenceIdeal_on_balanced_pre_fits_KernelIdeal (hKernelIdeal := hKernelIdeal) (hReferenceIdeal := hReferenceIdeal) (hPre_fits_KernelIdeal := hPre_fits_KernelIdeal) (hOn_balanced := hOn_balanced)
-- ==== On_balanced.lean ====
abbrev S4096x512 : Shape := ⟨2, ![4096, 512]⟩
abbrev S4096x1 : Shape := ⟨2, ![4096, 1]⟩
abbrev S4 : Shape := ⟨1, ![4]⟩
abbrev S1x4 : Shape := ⟨2, ![1, 4]⟩
abbrev S4096x4 : Shape := ⟨2, ![4096, 4]⟩
abbrev S_ : Shape := ⟨0, ![]⟩

class Facts : Prop where
  bcast_S4_S1x4_1 : S4.BroadcastsInDim S1x4 (![1] : Fin 1 → Fin S1x4.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  natLt_1_32 : 1 < 32
  reducesTo_S4096x4_S4_d0 : S4096x4.ReducesTo [0] S4
  h_S_ : 0 < S_.numel
  bcast_S_S4 : S_.BroadcastsInDim S4 (![] : Fin 0 → Fin S4.rank)
  reducesTo_S4_S_d0 : S4.ReducesTo [0] S_
  bcast_S_S4096x512 : S_.BroadcastsInDim S4096x512 (![] : Fin 0 → Fin S4096x512.rank)

variable [Facts]

def fn {F : FTy → Type} [FloatOps F] (main_arg0 : FVec F S4096x512 .f32) (main_arg1 : IVec S4096x1 32) : IVec S4096x512 1 :=
  let main_v0 : IVec S4 32 := iotaInDim S4 32 0
  let main_v1 : IVec S1x4 32 := broadcastInDim S1x4 ![1] bcast_S4_S1x4_1 main_v0
  let main_v2 : IVec S4096x4 32 := broadcastInDim S4096x4 ![0, 1] bcast_S4096x1_S4096x4_0_1 main_arg1
  let main_v3 : IVec S4096x4 32 := broadcastInDim S4096x4 ![0, 1] bcast_S1x4_S4096x4_0_1 main_v1
  let main_v4 : IVec S4096x4 1 := cmpi .eq main_v2 main_v3
  let main_v5 : IVec S4096x4 32 := (extui 32 · natLt_1_32) main_v4
  let main_c : IVec S_ 32 := constantI S_ 32 0#32
  let main_v6 : IVec S4 32 := (fun x v => Host.reduce IntOp.addi x v reducesTo_S4096x4_S4_d0 h_S_) main_v5 main_c
  let main_c_0 : IVec S_ 32 := constantI S_ 32 1024#32
  let main_v7 : IVec S4 32 := broadcastInDim S4 ![] bcast_S_S4 main_c_0
  let main_v8 : IVec S4 1 := cmpi .eq main_v6 main_v7
  let main_c_1 : IVec S_ 1 := constantI S_ 1 1#1
  let main_v9 : IVec S_ 1 := (fun x v => Host.reduce IntOp.andi x v reducesTo_S4_S_d0 h_S_) main_v8 main_c_1
  let main_v10 : IVec S4096x512 1 := broadcastInDim S4096x512 ![] bcast_S_S4096x512 main_v9
  main_v10
-- ==== Pre_fits_KernelIdeal.lean ====
abbrev S1024x512 : Shape := ⟨2, ![1024, 512]⟩
abbrev S1024x1 : Shape := ⟨2, ![1024, 1]⟩
abbrev S4 : Shape := ⟨1, ![4]⟩
abbrev S1x4 : Shape := ⟨2, ![1, 4]⟩
abbrev S1024x4 : Shape := ⟨2, ![1024, 4]⟩
abbrev S_ : Shape := ⟨0, ![]⟩

class Facts : Prop where
  bcast_S4_S1x4_1 : S4.BroadcastsInDim S1x4 (![1] : Fin 1 → Fin S1x4.rank)
  bcast_S1024x1_S1024x4_0_1 : S1024x1.BroadcastsInDim S1024x4 (![0, 1] : Fin 2 → Fin S1024x4.rank)
  bcast_S1x4_S1024x4_0_1 : S1x4.BroadcastsInDim S1024x4 (![0, 1] : Fin 2 → Fin S1024x4.rank)
  natLt_1_32 : 1 < 32
  reducesTo_S1024x4_S4_d0 : S1024x4.ReducesTo [0] S4
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S1024x512 .f32) (main_arg1 : IVec S1024x1 32) : IVec S_ 1 :=
  let main_v0 : IVec S4 32 := iotaInDim S4 32 0
  let main_v1 : IVec S1x4 32 := broadcastInDim S1x4 ![1] bcast_S4_S1x4_1 main_v0
  let main_v2 : IVec S1024x4 32 := broadcastInDim S1024x4 ![0, 1] bcast_S1024x1_S1024x4_0_1 main_arg1
  let main_v3 : IVec S1024x4 32 := broadcastInDim S1024x4 ![0, 1] bcast_S1x4_S1024x4_0_1 main_v1
  let main_v4 : IVec S1024x4 1 := cmpi .eq main_v2 main_v3
  let main_v5 : IVec S1024x4 32 := (extui 32 · natLt_1_32) main_v4
  let main_c : IVec S_ 32 := constantI S_ 32 0#32
  let main_v6 : IVec S4 32 := (fun x v => Host.reduce IntOp.addi x v reducesTo_S1024x4_S4_d0 h_S_) main_v5 main_c
  let main_c_0 : IVec S_ 32 := constantI S_ 32 288#32
  let main_v7 : IVec S4 32 := broadcastInDim S4 ![] bcast_S_S4 main_c_0
  let main_v8 : IVec S4 1 := cmpi .sle main_v6 main_v7
  let main_c_1 : IVec S_ 1 := constantI S_ 1 1#1
  let main_v9 : IVec S_ 1 := (fun x v => Host.reduce IntOp.andi x v reducesTo_S4_S_d0 h_S_) main_v8 main_c_1
  main_v9
-- ==== Pre_fits_RaggedIdeal.lean ====
abbrev S4096x512 : Shape := ⟨2, ![4096, 512]⟩
abbrev S4096x1 : Shape := ⟨2, ![4096, 1]⟩
abbrev S4 : Shape := ⟨1, ![4]⟩
abbrev S1x4 : Shape := ⟨2, ![1, 4]⟩
abbrev S4096x4 : Shape := ⟨2, ![4096, 4]⟩
abbrev S_ : Shape := ⟨0, ![]⟩

class Facts : Prop where
  bcast_S4_S1x4_1 : S4.BroadcastsInDim S1x4 (![1] : Fin 1 → Fin S1x4.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  natLt_1_32 : 1 < 32
  reducesTo_S4096x4_S4_d0 : S4096x4.ReducesTo [0] S4
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S4096x512 .f32) (main_arg1 : IVec S4096x1 32) : IVec S_ 1 :=
  let main_v0 : IVec S4 32 := iotaInDim S4 32 0
  let main_v1 : IVec S1x4 32 := broadcastInDim S1x4 ![1] bcast_S4_S1x4_1 main_v0
  let main_v2 : IVec S4096x4 32 := broadcastInDim S4096x4 ![0, 1] bcast_S4096x1_S4096x4_0_1 main_arg1
  let main_v3 : IVec S4096x4 32 := broadcastInDim S4096x4 ![0, 1] bcast_S1x4_S4096x4_0_1 main_v1
  let main_v4 : IVec S4096x4 1 := cmpi .eq main_v2 main_v3
  let main_v5 : IVec S4096x4 32 := (extui 32 · natLt_1_32) main_v4
  let main_c : IVec S_ 32 := constantI S_ 32 0#32
  let main_v6 : IVec S4 32 := (fun x v => Host.reduce IntOp.addi x v reducesTo_S4096x4_S4_d0 h_S_) main_v5 main_c
  let main_c_0 : IVec S_ 32 := constantI S_ 32 288#32
  let main_v7 : IVec S4 32 := broadcastInDim S4 ![] bcast_S_S4 main_c_0
  let main_v8 : IVec S4 1 := cmpi .sle main_v6 main_v7
  let main_c_1 : IVec S_ 1 := constantI S_ 1 1#1
  let main_v9 : IVec S_ 1 := (fun x v => Host.reduce IntOp.andi x v reducesTo_S4_S_d0 h_S_) main_v8 main_c_1
  main_v9
-- ==== Kernel.lean ====
abbrev S1024x512 : Shape := ⟨2, ![1024, 512]⟩
abbrev S1024x1 : Shape := ⟨2, ![1024, 1]⟩
abbrev S3x288x512 : Shape := ⟨3, ![3, 288, 512]⟩
abbrev S8x128 : Shape := ⟨2, ![8, 128]⟩
abbrev S4x288x512 : Shape := ⟨3, ![4, 288, 512]⟩
abbrev S4x8x128 : Shape := ⟨3, ![4, 8, 128]⟩
abbrev S3 : Shape := ⟨1, ![3]⟩
abbrev S_ : Shape := ⟨0, ![]⟩
abbrev S1024x128 : Shape := ⟨2, ![1024, 128]⟩
abbrev S1x128 : Shape := ⟨2, ![1, 128]⟩
abbrev S1023x128 : Shape := ⟨2, ![1023, 128]⟩
abbrev S2x128 : Shape := ⟨2, ![2, 128]⟩
abbrev S1022x128 : Shape := ⟨2, ![1022, 128]⟩
abbrev S4x128 : Shape := ⟨2, ![4, 128]⟩
abbrev S1020x128 : Shape := ⟨2, ![1020, 128]⟩
abbrev S1016x128 : Shape := ⟨2, ![1016, 128]⟩
abbrev S16x128 : Shape := ⟨2, ![16, 128]⟩
abbrev S1008x128 : Shape := ⟨2, ![1008, 128]⟩
abbrev S32x128 : Shape := ⟨2, ![32, 128]⟩
abbrev S992x128 : Shape := ⟨2, ![992, 128]⟩
abbrev S64x128 : Shape := ⟨2, ![64, 128]⟩
abbrev S960x128 : Shape := ⟨2, ![960, 128]⟩
abbrev S128x128 : Shape := ⟨2, ![128, 128]⟩
abbrev S896x128 : Shape := ⟨2, ![896, 128]⟩
abbrev S256x128 : Shape := ⟨2, ![256, 128]⟩
abbrev S768x128 : Shape := ⟨2, ![768, 128]⟩
abbrev S512x128 : Shape := ⟨2, ![512, 128]⟩
abbrev S1024 : Shape := ⟨1, ![1024]⟩
abbrev S1 : Shape := ⟨1, ![1]⟩
abbrev S1x8x128 : Shape := ⟨3, ![1, 8, 128]⟩
abbrev S1024x288 : Shape := ⟨2, ![1024, 288]⟩
abbrev S288x512 : Shape := ⟨2, ![288, 512]⟩
abbrev S1x288x512 : Shape := ⟨3, ![1, 288, 512]⟩
abbrev S1x1x1 : Shape := ⟨3, ![1, 1, 1]⟩
abbrev S1x288 : Shape := ⟨2, ![1, 288]⟩

abbrev nBuf : Space → Nat
  | .hbm => 3
  | .vmem => 7
  | .smem => 1
  | _ => 0

abbrev bufTy : (tb : Table) → Fin (tcTables nBuf tb) → BufTy
  | .hbm, ⟨0, _⟩ => ⟨S1024x512, .f32⟩
  | .hbm, ⟨1, _⟩ => ⟨S1024x1, .i32⟩
  | .hbm, ⟨2, _⟩ => ⟨S1024x512, .f32⟩
  | .local _ .vmem, ⟨0, _⟩ => ⟨S1024x512, .f32⟩
  | .local _ .vmem, ⟨1, _⟩ => ⟨S1024x1, .i32⟩
  | .local _ .vmem, ⟨2, _⟩ => ⟨S1024x512, .f32⟩
  | .local _ .vmem, ⟨3, _⟩ => ⟨S3x288x512, .f32⟩
  | .local _ .vmem, ⟨4, _⟩ => ⟨S8x128, .i32⟩
  | .local _ .vmem, ⟨5, _⟩ => ⟨S4x288x512, .f32⟩
  | .local _ .vmem, ⟨6, _⟩ => ⟨S4x8x128, .i32⟩
  | .local _ .smem, ⟨0, _⟩ => ⟨S4x8x128, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_53 : BitVec 32 := 0#32
  let c0_i32_54 : BitVec 32 := 0#32
  ![v2.toNat, 0, 0]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_42 : BitVec 32 := 1#32
  let v98 : BitVec 32 := Scalar.addi v2 c1_i32_42
  let c4_i32_43 : BitVec 32 := 4#32
  let c0_i32_44 : BitVec 32 := 0#32
  let v99 : BitVec 1 := Scalar.cmpi .eq c4_i32_43 c0_i32_44
  let c1_i32_45 : BitVec 32 := 1#32
  let v100 : BitVec 32 := Scalar.select v99 c1_i32_45 c4_i32_43
  let v101 : BitVec 32 := Scalar.remsi v98 v100
  let c0_i32_47 : BitVec 32 := 0#32
  let v103 : BitVec 1 := Scalar.cmpi .slt v101 c0_i32_47
  let c0_i32_48 : BitVec 32 := 0#32
  let v104 : BitVec 1 := Scalar.cmpi .slt v100 c0_i32_48
  let v105 : BitVec 1 := Scalar.xori v103 v104
  let c0_i32_46 : BitVec 32 := 0#32
  let v102 : BitVec 1 := Scalar.cmpi .ne v101 c0_i32_46
  let v106 : BitVec 1 := Scalar.andi v105 v102
  let v107 : BitVec 32 := Scalar.addi v101 v100
  let v108 : BitVec 32 := Scalar.select v106 v107 v101
  let c1_i32_51 : BitVec 32 := 1#32
  let v109 : BitVec 32 := Scalar.muli v108 c1_i32_51
  let v110 : BitVec 32 := Scalar.addi c0_i32_52 v109
  v110.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_55 : BitVec 32 := 2#32
  let v117 : BitVec 32 := Scalar.addi v2 c2_i32_55
  let c4_i32_56 : BitVec 32 := 4#32
  let c0_i32_57 : BitVec 32 := 0#32
  let v118 : BitVec 1 := Scalar.cmpi .eq c4_i32_56 c0_i32_57
  let c1_i32_58 : BitVec 32 := 1#32
  let v119 : BitVec 32 := Scalar.select v118 c1_i32_58 c4_i32_56
  let v120 : BitVec 32 := Scalar.remsi v117 v119
  let c0_i32_60 : BitVec 32 := 0#32
  let v122 : BitVec 1 := Scalar.cmpi .slt v120 c0_i32_60
  let c0_i32_61 : BitVec 32 := 0#32
  let v123 : BitVec 1 := Scalar.cmpi .slt v119 c0_i32_61
  let v124 : BitVec 1 := Scalar.xori v122 v123
  let c0_i32_59 : BitVec 32 := 0#32
  let v121 : BitVec 1 := Scalar.cmpi .ne v120 c0_i32_59
  let v125 : BitVec 1 := Scalar.andi v124 v121
  let v126 : BitVec 32 := Scalar.addi v120 v119
  let v127 : BitVec 32 := Scalar.select v125 v126 v120
  let c1_i32_64 : BitVec 32 := 1#32
  let v128 : BitVec 32 := Scalar.muli v127 c1_i32_64
  let v129 : BitVec 32 := Scalar.addi c0_i32_65 v128
  v129.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_68 : BitVec 32 := 3#32
  let v136 : BitVec 32 := Scalar.addi v2 c3_i32_68
  let c4_i32_69 : BitVec 32 := 4#32
  let c0_i32_70 : BitVec 32 := 0#32
  let v137 : BitVec 1 := Scalar.cmpi .eq c4_i32_69 c0_i32_70
  let c1_i32_71 : BitVec 32 := 1#32
  let v138 : BitVec 32 := Scalar.select v137 c1_i32_71 c4_i32_69
  let v139 : BitVec 32 := Scalar.remsi v136 v138
  let c0_i32_73 : BitVec 32 := 0#32
  let v141 : BitVec 1 := Scalar.cmpi .slt v139 c0_i32_73
  let c0_i32_74 : BitVec 32 := 0#32
  let v142 : BitVec 1 := Scalar.cmpi .slt v138 c0_i32_74
  let v143 : BitVec 1 := Scalar.xori v141 v142
  let c0_i32_72 : BitVec 32 := 0#32
  let v140 : BitVec 1 := Scalar.cmpi .ne v139 c0_i32_72
  let v144 : BitVec 1 := Scalar.andi v143 v140
  let v145 : BitVec 32 := Scalar.addi v139 v138
  let v146 : BitVec 32 := Scalar.select v144 v145 v139
  let c1_i32_77 : BitVec 32 := 1#32
  let v147 : BitVec 32 := Scalar.muli v146 c1_i32_77
  let v148 : BitVec 32 := Scalar.addi c0_i32_78 v147
  v148.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_101 : BitVec 32 := 0#32
  let c0_i32_102 : BitVec 32 := 0#32
  ![v2.toNat, 0, 0]
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_81 : BitVec 32 := 1#32
  let v156 : BitVec 32 := Scalar.addi v2 c1_i32_81
  let c4_i32_82 : BitVec 32 := 4#32
  let c0_i32_83 : BitVec 32 := 0#32
  let v157 : BitVec 1 := Scalar.cmpi .eq c4_i32_82 c0_i32_83
  let c1_i32_84 : BitVec 32 := 1#32
  let v158 : BitVec 32 := Scalar.select v157 c1_i32_84 c4_i32_82
  let v159 : BitVec 32 := Scalar.remsi v156 v158
  let c0_i32_86 : BitVec 32 := 0#32
  let v161 : BitVec 1 := Scalar.cmpi .slt v159 c0_i32_86
  let c0_i32_87 : BitVec 32 := 0#32
  let v162 : BitVec 1 := Scalar.cmpi .slt v158 c0_i32_87
  let v163 : BitVec 1 := Scalar.xori v161 v162
  let c0_i32_85 : BitVec 32 := 0#32
  let v160 : BitVec 1 := Scalar.cmpi .ne v159 c0_i32_85
  let v164 : BitVec 1 := Scalar.andi v163 v160
  let v165 : BitVec 32 := Scalar.addi v159 v158
  let v166 : BitVec 32 := Scalar.select v164 v165 v159
  let c1_i32_99 : BitVec 32 := 1#32
  let v184 : BitVec 32 := Scalar.muli v166 c1_i32_99
  let v185 : BitVec 32 := Scalar.addi c0_i32_100 v184
  v185.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_105 : BitVec 32 := 2#32
  let v194 : BitVec 32 := Scalar.addi v2 c2_i32_105
  let c4_i32_106 : BitVec 32 := 4#32
  let c0_i32_107 : BitVec 32 := 0#32
  let v195 : BitVec 1 := Scalar.cmpi .eq c4_i32_106 c0_i32_107
  let c1_i32_108 : BitVec 32 := 1#32
  let v196 : BitVec 32 := Scalar.select v195 c1_i32_108 c4_i32_106
  let v197 : BitVec 32 := Scalar.remsi v194 v196
  let c0_i32_110 : BitVec 32 := 0#32
  let v199 : BitVec 1 := Scalar.cmpi .slt v197 c0_i32_110
  let c0_i32_111 : BitVec 32 := 0#32
  let v200 : BitVec 1 := Scalar.cmpi .slt v196 c0_i32_111
  let v201 : BitVec 1 := Scalar.xori v199 v200
  let c0_i32_109 : BitVec 32 := 0#32
  let v198 : BitVec 1 := Scalar.cmpi .ne v197 c0_i32_109
  let v202 : BitVec 1 := Scalar.andi v201 v198
  let v203 : BitVec 32 := Scalar.addi v197 v196
  let v204 : BitVec 32 := Scalar.select v202 v203 v197
  let c1_i32_122 : BitVec 32 := 1#32
  let v222 : BitVec 32 := Scalar.muli v204 c1_i32_122
  let v223 : BitVec 32 := Scalar.addi c0_i32_123 v222
  v223.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_128 : BitVec 32 := 3#32
  let v232 : BitVec 32 := Scalar.addi v2 c3_i32_128
  let c4_i32_129 : BitVec 32 := 4#32
  let c0_i32_130 : BitVec 32 := 0#32
  let v233 : BitVec 1 := Scalar.cmpi .eq c4_i32_129 c0_i32_130
  let c1_i32_131 : BitVec 32 := 1#32
  let v234 : BitVec 32 := Scalar.select v233 c1_i32_131 c4_i32_129
  let v235 : BitVec 32 := Scalar.remsi v232 v234
  let c0_i32_133 : BitVec 32 := 0#32
  let v237 : BitVec 1 := Scalar.cmpi .slt v235 c0_i32_133
  let c0_i32_134 : BitVec 32 := 0#32
  let v238 : BitVec 1 := Scalar.cmpi .slt v234 c0_i32_134
  let v239 : BitVec 1 := Scalar.xori v237 v238
  let c0_i32_132 : BitVec 32 := 0#32
  let v236 : BitVec 1 := Scalar.cmpi .ne v235 c0_i32_132
  let v240 : BitVec 1 := Scalar.andi v239 v236
  let v241 : BitVec 32 := Scalar.addi v235 v234
  let v242 : BitVec 32 := Scalar.select v240 v241 v235
  let c1_i32_145 : BitVec 32 := 1#32
  let v260 : BitVec 32 := Scalar.muli v242 c1_i32_145
  let v261 : BitVec 32 := Scalar.addi c0_i32_146 v260
  v261.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v303 : Index := Scalar.indexCast v2
  let c0_176 : Index := 0#32
  let c0_177 : Index := 0#32
  ![v303.toNat, 0, 0]
def k0_off4 (d0 : Dev nD) : Fin 3 → Nat :=
  let c0_178 : Index := 0#32
  let c7 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v307 : Index := Scalar.indexCast v2
  ![0, 7, v307.toNat]
def k0_off5 (d0 : Dev nD) : Fin 3 → Nat :=
  let c1_179 : Index := 1#32
  let c7_180 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v309 : Index := Scalar.indexCast v2
  ![1, 7, v309.toNat]
def k0_off6 (d0 : Dev nD) : Fin 3 → Nat :=
  let c2_181 : Index := 2#32
  let c7_182 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v311 : Index := Scalar.indexCast v2
  ![2, 7, v311.toNat]
def k0_off7 (d0 : Dev nD) : Fin 3 → Nat :=
  let c3 : Index := 3#32
  let c7_183 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v313 : Index := Scalar.indexCast v2
  ![3, 7, v313.toNat]
def k0_off8 (d0 : Dev nD) (c1_i32_215 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v366 : BitVec 32 := Scalar.subi v2 c1_i32_215
  let c4_i32_216 : BitVec 32 := 4#32
  let c0_i32_217 : BitVec 32 := 0#32
  let v367 : BitVec 1 := Scalar.cmpi .eq c4_i32_216 c0_i32_217
  let c1_i32_218 : BitVec 32 := 1#32
  let v368 : BitVec 32 := Scalar.select v367 c1_i32_218 c4_i32_216
  let v369 : BitVec 32 := Scalar.remsi v366 v368
  let c0_i32_220 : BitVec 32 := 0#32
  let v371 : BitVec 1 := Scalar.cmpi .slt v369 c0_i32_220
  let c0_i32_221 : BitVec 32 := 0#32
  let v372 : BitVec 1 := Scalar.cmpi .slt v368 c0_i32_221
  let v373 : BitVec 1 := Scalar.xori v371 v372
  let c0_i32_219 : BitVec 32 := 0#32
  let v370 : BitVec 1 := Scalar.cmpi .ne v369 c0_i32_219
  let v374 : BitVec 1 := Scalar.andi v373 v370
  let v375 : BitVec 32 := Scalar.addi v369 v368
  let v376 : BitVec 32 := Scalar.select v374 v375 v369
  let v377 : Index := Scalar.indexCast v376
  let c0_222 : Index := 0#32
  let c0_223 : Index := 0#32
  ![v377.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RaggedIdeal.lean ====
abbrev S4096x512 : Shape := ⟨2, ![4096, 512]⟩
abbrev S4096x1 : Shape := ⟨2, ![4096, 1]⟩
abbrev S4096 : Shape := ⟨1, ![4096]⟩
abbrev S4 : Shape := ⟨1, ![4]⟩
abbrev S1x4 : Shape := ⟨2, ![1, 4]⟩
abbrev S4096x4 : Shape := ⟨2, ![4096, 4]⟩
abbrev S_ : Shape := ⟨0, ![]⟩
abbrev S1024 : Shape := ⟨1, ![1024]⟩
abbrev S1x1024 : Shape := ⟨2, ![1, 1024]⟩
abbrev S4x1 : Shape := ⟨2, ![4, 1]⟩
abbrev S4x1024 : Shape := ⟨2, ![4, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S4, .i32⟩
  | .hbm, ⟨7, _⟩ => ⟨S4096x1, .i32⟩
  | .hbm, ⟨8, _⟩ => ⟨S1x4, .i32⟩
  | .hbm, ⟨9, _⟩ => ⟨S4096x4, .i32⟩
  | .hbm, ⟨10, _⟩ => ⟨S4096x4, .i32⟩
  | .hbm, ⟨11, _⟩ => ⟨S4096x4, .i1⟩
  | .hbm, ⟨12, _⟩ => ⟨S4096x4, .i32⟩
  | .hbm, ⟨13, _⟩ => ⟨S_, .i32⟩
  | .hbm, ⟨14, _⟩ => ⟨S4, .i32⟩
  | .hbm, ⟨15, _⟩ => ⟨S4096x1, .i32⟩
  | .hbm, ⟨16, _⟩ => ⟨S1x4, .i32⟩
  | .hbm, ⟨17, _⟩ => ⟨S4096x4, .i32⟩
  | .hbm, ⟨18, _⟩ => ⟨S4096x4, .i32⟩
  | .hbm, ⟨19, _⟩ => ⟨S4096x4, .i1⟩
  | .hbm, ⟨20, _⟩ => ⟨S4096x4, .i32⟩
  | .hbm, ⟨21, _⟩ => ⟨S_, .i32⟩
  | .hbm, ⟨22, _⟩ => ⟨S4, .i32⟩
  | .hbm, ⟨23, _⟩ => ⟨S1024, .i32⟩
  | .hbm, ⟨24, _⟩ => ⟨S1x1024, .i32⟩
  | .hbm, ⟨25, _⟩ => ⟨S4x1, .i32⟩
  | .hbm, ⟨26, _⟩ => ⟨S4x1024, .i32⟩
  | .hbm, ⟨27, _⟩ => ⟨S4x1024, .i32⟩
  | .hbm, ⟨28, _⟩ => ⟨S4x1024, .i1⟩
  | .hbm, ⟨29, _⟩ => ⟨S4x1, .i32⟩
  | .hbm, ⟨30, _⟩ => ⟨S1x1024, .i32⟩
  | .hbm, ⟨31, _⟩ => ⟨S4x1024, .i32⟩
  | .hbm, ⟨32, _⟩ => ⟨S4x1024, .i32⟩
  | .hbm, ⟨33, _⟩ => ⟨S4x1024, .i32⟩
  | .hbm, ⟨34, _⟩ => ⟨S_, .i32⟩
  | .hbm, ⟨35, _⟩ => ⟨S_, .i32⟩
  | .hbm, ⟨36, _⟩ => ⟨S4x1024, .i32⟩
  | .hbm, ⟨37, _⟩ => ⟨S4x1024, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096x512, .f32⟩
  | .hbm, ⟨57, _⟩ => ⟨S4096, .i1⟩
  | .hbm, ⟨58, _⟩ => ⟨S4096x1, .i1⟩
  | .hbm, ⟨59, _⟩ => ⟨S_, .f32⟩
  | .hbm, ⟨60, _⟩ => ⟨S_, .f32⟩
  | .hbm, ⟨61, _⟩ => ⟨S4096x512, .i1⟩
  | .hbm, ⟨62, _⟩ => ⟨S4096x512, .f32⟩
  | .hbm, ⟨63, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== ReferenceIdeal.lean ====
abbrev S4096x512 : Shape := ⟨2, ![4096, 512]⟩
abbrev S4096x1 : Shape := ⟨2, ![4096, 1]⟩
abbrev S4096 : Shape := ⟨1, ![4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Protocol.lean ====
module
/-
# The protocol of the kernel

Four devices. Each tells the three others that it has entered the kernel (the runtime's barrier semaphore), waits for
the three others, and then sends each of them its block of row counts and its message block, each transfer on its own
pair of DMA semaphores. This module states who owes what to whom: the slots, the cells, the duties and their payloads,
with the contents the payloads carry.
-/
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any contents, every counter zero. -/
def s₀ : MemSt nD τ sig (Elt F) := ⟨m, fun _ => 0, ρ⟩

/-! ## The other devices -/

/-- The device `k + 1` places after `c`. -/
def fwd (k : Fin 3) (c : Dev nD) : Dev nD := ⟨(c.val + 1 + k.val) % 4, Nat.mod_lt _ (by decide)⟩
/-- The device `k + 1` places before `c`. -/
def bwd (k : Fin 3) (c : Dev nD) : Dev nD := ⟨(c.val + 3 - k.val) % 4, Nat.mod_lt _ (by decide)⟩

theorem bwd_fwd (k : Fin 3) (c : Dev nD) : bwd k (fwd k c) = c := by revert k c; decide
theorem fwd_bwd (k : Fin 3) (c : Dev nD) : fwd k (bwd k c) = c := by revert k c; decide
theorem bwd0 (c : Dev nD) : bwd 0 c = fwd 2 c := by revert c; decide
theorem bwd1 (c : Dev nD) : bwd 1 c = fwd 1 c := by revert c; decide
theorem bwd2 (c : Dev nD) : bwd 2 c = fwd 0 c := by revert c; decide

def rot (k : Fin 3) : Dev nD ≃ Dev nD := ⟨fwd k, bwd k, bwd_fwd k, fwd_bwd k⟩

theorem dev1_eq (c : Dev nD) : (⟨k0_dev1 c, k0_dev1_lt c⟩ : Dev nD) = fwd 0 c := by revert c; decide +kernel
theorem dev2_eq (c : Dev nD) : (⟨k0_dev2 c, k0_dev2_lt c⟩ : Dev nD) = fwd 1 c := by revert c; decide +kernel
theorem dev3_eq (c : Dev nD) : (⟨k0_dev3 c, k0_dev3_lt c⟩ : Dev nD) = fwd 2 c := by revert c; decide +kernel
theorem dev4_eq (c : Dev nD) : (⟨k0_dev4 c, k0_dev4_lt c⟩ : Dev nD) = fwd 0 c := by revert c; decide +kernel
theorem dev5_eq (c : Dev nD) : (⟨k0_dev5 c, k0_dev5_lt c⟩ : Dev nD) = fwd 1 c := by revert c; decide +kernel
theorem dev6_eq (c : Dev nD) : (⟨k0_dev6 c, k0_dev6_lt c⟩ : Dev nD) = fwd 2 c := by revert c; decide +kernel
theorem dev7_eq (c : Dev nD) : (⟨k0_dev7 c, k0_dev7_lt c⟩ : Dev nD) = fwd 0 c := by revert c; decide +kernel
theorem dev8_eq (c : Dev nD) : (⟨k0_dev8 c, k0_dev8_lt c⟩ : Dev nD) = fwd 1 c := by revert c; decide +kernel
theorem dev9_eq (c : Dev nD) : (⟨k0_dev9 c, k0_dev9_lt c⟩ : Dev nD) = fwd 2 c := by revert c; decide +kernel

theorem off1_eq (s : Dev nD) : k0_off1 s = ![s.val, 0, 0] := by revert s; decide +kernel
theorem off2_eq (s : Dev nD) : k0_off2 s = ![s.val, 0, 0] := by revert s; decide +kernel
theorem off3_eq (s : Dev nD) : k0_off3 s = ![s.val, 0, 0] := by revert s; decide +kernel
theorem off4_eq (s : Dev nD) : k0_off4 s = ![0, 7, s.val] := by revert s; decide +kernel
theorem off5_eq (s : Dev nD) : k0_off5 s = ![1, 7, s.val] := by revert s; decide +kernel
theorem off6_eq (s : Dev nD) : k0_off6 s = ![2, 7, s.val] := by revert s; decide +kernel
theorem off7_eq (s : Dev nD) : k0_off7 s = ![3, 7, s.val] := by revert s; decide +kernel
theorem off8_1_eq (s : Dev nD) : k0_off8 s 1#32 = ![(bwd 0 s).val, 0, 0] := by revert s; decide +kernel
theorem off8_2_eq (s : Dev nD) : k0_off8 s 2#32 = ![(bwd 1 s).val, 0, 0] := by revert s; decide +kernel
theorem off8_3_eq (s : Dev nD) : k0_off8 s 3#32 = ![(bwd 2 s).val, 0, 0] := by revert s; decide +kernel

/-! ## Memrefs and cells -/

abbrev xM : Memref sig .tc .vmem S1024x512 .f32 := Memref.whole cc0_stg0_0
abbrev dM : Memref sig .tc .vmem S1024x1 .i32 := Memref.whole cc0_stg1_0
abbrev oM : Memref sig .tc .vmem S1024x512 .f32 := Memref.whole cc0_stg2_0
abbrev sbM : Memref sig .tc .vmem S3x288x512 .f32 := Memref.whole cc0_scratch0
abbrev ctM : Memref sig .tc .vmem S8x128 .i32 := Memref.whole cc0_scratch1
abbrev rbM : Memref sig .tc .vmem S4x288x512 .f32 := Memref.whole cc0_scratch2
abbrev cgM : Memref sig .tc .vmem S4x8x128 .i32 := Memref.whole cc0_scratch3
abbrev csM : Memref sig .tc .smem S4x8x128 .i32 := Memref.whole cc0_scratch4

/-- Slot `s` of the gathered counts, as the kernel names it. -/
abbrev cgS (s : Dev nD) : Memref sig .tc .vmem S8x128 .i32 :=
  (cgM.slice (Rect.unit (s := S4x8x128) (k0_off1 s) S1x8x128.size (k0_off1_inb s)) (fun _ => rfl)).squeeze S8x128 squeezes_S1x8x128_S8x128
/-- Slot `s` of the received messages. -/
abbrev rbS (s : Dev nD) : Memref sig .tc .vmem S288x512 .f32 :=
  (rbM.slice (Rect.unit (s := S4x288x512) (k0_off2 s) S1x288x512.size (k0_off2_inb s)) (fun _ => rfl)).squeeze S288x512 squeezes_S1x288x512_S288x512
abbrev sbOff : Fin 3 → Fin 3 → ℕ
  | 0 => ![0, 0, 0]
  | 1 => ![1, 0, 0]
  | 2 => ![2, 0, 0]
theorem sbOff_eq (k : Fin 3) : sbOff k = ![k.val, 0, 0] := by revert k; decide
theorem sbOff_inb (k : Fin 3) : ∀ a, sbOff k a + S1x288x512.size a ≤ S3x288x512.size a := by revert k; decide
/-- Slot `k` of the messages to send. -/
abbrev sbS (k : Fin 3) : Memref sig .tc .vmem S288x512 .f32 :=
  (sbM.slice (Rect.unit (s := S3x288x512) (sbOff k) S1x288x512.size (sbOff_inb k)) (fun _ => rfl)).squeeze S288x512 squeezes_S1x288x512_S288x512

/-- The runtime's barrier semaphore. -/
abbrev barS : Sem sig := (SemArray.scalar (sig.barrier 0 rfl) : Sems sig S_).sem
/-- The four families of DMA semaphores of the transfers, and the local copy's. -/
abbrev sB (k : Fin 3) : DmaSem sig := (⟨3 + k.val, by omega⟩ : Fin 16)
abbrev rB (k : Fin 3) : DmaSem sig := (⟨6 + k.val, by omega⟩ : Fin 16)
abbrev sC (k : Fin 3) : DmaSem sig := (⟨9 + k.val, by omega⟩ : Fin 16)
abbrev rC (k : Fin 3) : DmaSem sig := (⟨12 + k.val, by omega⟩ : Fin 16)
abbrev cpS : DmaSem sig := (⟨15, by omega⟩ : Fin 16)

theorem sB0 : ((cc0_scratch5.slice (Rect.unit (s := S3) ![0] S1.size inb_S3_S1_0)).squeeze S_ squeezes_S1_S_).sem = sB 0 := rfl
theorem sB1 : ((cc0_scratch5.slice (Rect.unit (s := S3) ![1] S1.size inb_S3_S1_1)).squeeze S_ squeezes_S1_S_).sem = sB 1 := rfl
theorem sB2 : ((cc0_scratch5.slice (Rect.unit (s := S3) ![2] S1.size inb_S3_S1_2)).squeeze S_ squeezes_S1_S_).sem = sB 2 := rfl
theorem rB0 : ((cc0_scratch6.slice (Rect.unit (s := S3) ![0] S1.size inb_S3_S1_0)).squeeze S_ squeezes_S1_S_).sem = rB 0 := rfl
theorem rB1 : ((cc0_scratch6.slice (Rect.unit (s := S3) ![1] S1.size inb_S3_S1_1)).squeeze S_ squeezes_S1_S_).sem = rB 1 := rfl
theorem rB2 : ((cc0_scratch6.slice (Rect.unit (s := S3) ![2] S1.size inb_S3_S1_2)).squeeze S_ squeezes_S1_S_).sem = rB 2 := rfl
theorem sC0 : ((cc0_scratch7.slice (Rect.unit (s := S3) ![0] S1.size inb_S3_S1_0)).squeeze S_ squeezes_S1_S_).sem = sC 0 := rfl
theorem sC1 : ((cc0_scratch7.slice (Rect.unit (s := S3) ![1] S1.size inb_S3_S1_1)).squeeze S_ squeezes_S1_S_).sem = sC 1 := rfl
theorem sC2 : ((cc0_scratch7.slice (Rect.unit (s := S3) ![2] S1.size inb_S3_S1_2)).squeeze S_ squeezes_S1_S_).sem = sC 2 := rfl
theorem rC0 : ((cc0_scratch8.slice (Rect.unit (s := S3) ![0] S1.size inb_S3_S1_0)).squeeze S_ squeezes_S1_S_).sem = rC 0 := rfl
theorem rC1 : ((cc0_scratch8.slice (Rect.unit (s := S3) ![1] S1.size inb_S3_S1_1)).squeeze S_ squeezes_S1_S_).sem = rC 1 := rfl
theorem rC2 : ((cc0_scratch8.slice (Rect.unit (s := S3) ![2] S1.size inb_S3_S1_2)).squeeze S_ squeezes_S1_S_).sem = rC 2 := rfl
theorem cp0 : cc0_scratch9.sem = cpS := rfl

abbrev barC (c : Dev nD) : GSem nD τ sig := ((c : Thread nD τ), .reg barS)
abbrev dC (q : DmaSem sig) (c : Dev nD) : GSem nD τ sig := ((c : Thread nD τ), .dma q)

abbrev Nc : ℕ := (cgS 0).view.dmaCredit
abbrev Nb : ℕ := (rbS 0).view.dmaCredit
abbrev Np : ℕ := (csM).view.dmaCredit
theorem Nc_pos : 0 < Nc := View.dmaCredit_pos _ (by decide)
theorem Nb_pos : 0 < Nb := View.dmaCredit_pos _ (by decide)
theorem Np_pos : 0 < Np := View.dmaCredit_pos _ (by decide)

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def dstg (c : Dev nD) : (cc0_stg1_0 : Ref sig .tc).ty.Contents (Elt F) :=
  (win0_1.blk (0 : Fin 1)).view.read (Elt F) ((s₀ m ρ).mem ((c : Thread nD τ).loc main_arg1))

/-- The device's number, as the kernel computes it. -/
def mw (c : Dev nD) : BitVec 32 := Scalar.remsi (Scalar.divsi (Dev.word c) 1#32) 4#32
def iotaP : IVec S1024x288 32 := iota .tc S1024x288 32 [1] iota_S1024x288_d1_w32
/-- Each row's place among the rows of its destination. -/
def posV (D : Vec F S1024x1 .i32) : IVec S1024x1 32 := k0_pay4 (k0_pay1 D) (k0_pay2 D)
/-- The block of running row counts a device sends. -/
def cntV (D : Vec F S1024x1 .i32) : IVec S8x128 32 := k0_pay5 (k0_pay2 D)
/-- The message block for the device `k + 1` places on. -/
def msgV (k : Fin 3) (c : Dev nD) (D : Vec F S1024x1 .i32) (X : Vec F S1024x512 .f32) : FVec F S1x288x512 .f32 :=
  match k with
  | 0 => k0_pay6 (mw c) (posV D) D X
  | 1 => k0_pay8 (k0_pay7 (mw c) (posV D) iotaP D X)
  | 2 => k0_pay10 (k0_pay9 (mw c) (posV D) iotaP D X)

def ixB (b : Fin 288) (j : Fin 512) : S1x288x512.Idx := fun | ⟨0, _⟩ => (0 : Fin 1) | ⟨1, _⟩ => b | ⟨2, _⟩ => j
def ixC (b : Fin 8) (j : Fin 128) : S8x128.Idx := fun | ⟨0, _⟩ => b | ⟨1, _⟩ => j

/-- Which of `s`'s transfers goes to `d`. -/
def kOf (s d : Dev nD) : Fin 3 := ⟨((d.val + 3 - s.val) % 4) % 3, Nat.mod_lt _ (by decide)⟩
theorem kOf_bwd (k : Fin 3) (d : Dev nD) : kOf (bwd k d) d = k := by revert k d; decide
theorem kOf_fwd (k : Fin 3) (c : Dev nD) : kOf c (fwd k c) = k := by revert k c; decide

/-- The messages a device prepares, all three slots. -/
def sbC (c : Dev nD) : S3x288x512.Idx → Elt F .f32 := fun i => msgV (i 0) c (dstg m ρ c) (xstg m ρ c) (ixB (i 1) (i 2))
/-- The messages a device holds in the end, slot `s` from device `s` (its own slot is never written). -/
def rbC (d : Dev nD) : S4x288x512.Idx → Elt F .f32 := fun i => msgV (kOf (i 0) d) (i 0) (dstg m ρ (i 0)) (xstg m ρ (i 0)) (ixB (i 1) (i 2))
/-- Every device's counts. -/
def cgC : S4x8x128.Idx → Elt F .i32 := fun i => cntV (F := F) (dstg m ρ (i 0)) (ixC (i 1) (i 2))

def cgPts (d s : Dev nD) (f : Buf (Elt F) ((cgS s).view.loc (d : Thread nD τ))) : sProp 𝕄 :=
  (cgS s).view.loc (d : Thread nD τ) ↦[(cgS s).view.set]{fullShare} f
def rbPts (d s : Dev nD) (f : Buf (Elt F) ((rbS s).view.loc (d : Thread nD τ))) : sProp 𝕄 :=
  (rbS s).view.loc (d : Thread nD τ) ↦[(rbS s).view.set]{fullShare} f
def sbPts (c : Dev nD) (k : Fin 3) (f : Buf (Elt F) ((sbM).view.loc (c : Thread nD τ))) : sProp 𝕄 :=
  (sbM).view.loc (c : Thread nD τ) ↦[(sbS k).view.set]{fullShare} f
/-- The three shares of the counts that go out with the three transfers, and what the device keeps. -/
def qsh : Fin 3 → PosShare TreeShare
  | 0 => fullShare.left
  | 1 => fullShare.right.left
  | 2 => fullShare.right.right.left
def qkeep : PosShare TreeShare := fullShare.right.right.right
def ctPts (c : Dev nD) (q : PosShare TreeShare) (f : Buf (Elt F) ((ctM).view.loc (c : Thread nD τ))) : sProp 𝕄 :=
  (ctM).view.loc (c : Thread nD τ) ↦[(ctM).view.set]{q} f
def cgAll (c : Dev nD) (f : Buf (Elt F) ((cgM).view.loc (c : Thread nD τ))) : sProp 𝕄 :=
  (cgM).view.loc (c : Thread nD τ) ↦[(cgM).view.set]{fullShare} f
def csAll (c : Dev nD) (f : Buf (Elt F) ((csM).view.loc (c : Thread nD τ))) : sProp 𝕄 :=
  (csM).view.loc (c : Thread nD τ) ↦[(csM).view.set]{fullShare} f

section
omit [FloatOps F]
instance (d s : Dev nD) (f) : BI.Storable (upEmb : UEmb _ 𝕄) (cgPts (F := F) d s f) := by unfold cgPts; infer_instance
instance (d s : Dev nD) (f) : BI.Storable (upEmb : UEmb _ 𝕄) (rbPts (F := F) d s f) := by unfold rbPts; infer_instance
instance (c : Dev nD) (k) (f) : BI.Storable (upEmb : UEmb _ 𝕄) (sbPts (F := F) c k f) := by unfold sbPts; infer_instance
instance (c : Dev nD) (q) (f) : BI.Storable (upEmb : UEmb _ 𝕄) (ctPts (F := F) c q f) := by unfold ctPts; infer_instance
instance (c : Dev nD) (f) : BI.Storable (upEmb : UEmb _ 𝕄) (cgAll (F := F) c f) := by unfold cgAll; infer_instance
instance (c : Dev nD) (f) : BI.Storable (upEmb : UEmb _ 𝕄) (csAll (F := F) c f) := by unfold csAll; infer_instance
end

/-! ## The schedule -/

/-- What the device `k + 1` places before `c` hands `c` with its signal: its own slots `c` to write into. -/
def barPay (k : Fin 3) (c : Dev nD) : sProp 𝕄 := iprop((∃ f, cgPts (bwd k c) c f) ∗ (∃ f, rbPts (bwd k c) c f))
def recvC (k : Fin 3) (c : Dev nD) : sProp 𝕄 := cgPts c (bwd k c) (cgC m ρ)
def recvB (k : Fin 3) (c : Dev nD) : sProp 𝕄 := rbPts c (bwd k c) (rbC m ρ c)
def sendC (k : Fin 3) (c : Dev nD) : sProp 𝕄 := ctPts c (qsh k) (cntV (F := F) (dstg m ρ c))
def sendB (k : Fin 3) (c : Dev nD) : sProp 𝕄 := sbPts c k (sbC m ρ c)
def cpPay (c : Dev nD) : sProp 𝕄 := iprop(csAll c (cgC m ρ) ∗ cgAll c (cgC m ρ))

def dmaPay (q : ℕ) (c : Dev nD) : sProp 𝕄 :=
  match q with
  | 3 => sendB m ρ 0 c | 4 => sendB m ρ 1 c | 5 => sendB m ρ 2 c
  | 6 => recvB m ρ 0 c | 7 => recvB m ρ 1 c | 8 => recvB m ρ 2 c
  | 9 => sendC m ρ 0 c | 10 => sendC m ρ 1 c | 11 => sendC m ρ 2 c
  | 12 => recvC m ρ 0 c | 13 => recvC m ρ 1 c | 14 => recvC m ρ 2 c
  | 15 => cpPay m ρ c
  | _ => iprop(emp)

/-- One round. A barrier cell has three unit duties, one per other device; each DMA cell one duty of its credit. -/
def rd : Rounds.Schedule (GSem nD τ sig) (Fin 3) 𝕄 where
  duties g r := if r = 0 then (match g.2 with | .reg _ => Finset.univ | .dma q => if 3 ≤ q.val then {0} else ∅) else ∅
  unitless _ := False
  amount g _ _ := match g.2 with | .reg _ => 1 | .dma q => if q.val < 9 then Nb else if q.val < 15 then Nc else Np
  payload g _ d := match g.2 with | .reg _ => barPay d g.1.1 | .dma q => dmaPay m ρ q.val g.1.1
  amount_pos g _ _ _ := by
    split
    · exact Nat.one_pos
    · split
      · exact Nb_pos
      · split
        · exact Nc_pos
        · exact Np_pos

instance rd_storable (g : GSem nD τ sig) (r : ℕ) (d : Fin 3) : BI.Storable (upEmb : UEmb _ 𝕄) ((rd (F := F) m ρ).payload g r d) := by
  show BI.Storable upEmb (match g.2 with | .reg _ => barPay d g.1.1 | .dma q => dmaPay m ρ q.val g.1.1)
  unfold dmaPay barPay recvC recvB sendC sendB cpPay
  (repeat' split) <;> infer_instance

section Sched
variable (c : Dev nD)

theorem duties_bar : (rd (F := F) m ρ).duties (barC c) 0 = Finset.univ := rfl
theorem duties_dma (q : DmaSem sig) (hq : 3 ≤ q.val) : (rd (F := F) m ρ).duties (dC q c) 0 = {0} := by
  dsimp only [rd]; rw [if_pos rfl, if_pos hq]
theorem duties_later (g : GSem nD τ sig) : ∀ r, 1 ≤ r → (rd (F := F) m ρ).duties g r = ∅ :=
  fun r hr => by dsimp only [rd]; rw [if_neg (by omega)]
theorem amount_bar (d : Fin 3) : (rd (F := F) m ρ).amount (barC c) 0 d = 1 := rfl

/-- The credit of a DMA cell. -/
def amt (q : DmaSem sig) : ℕ := if q.val < 9 then Nb else if q.val < 15 then Nc else Np
theorem amount_dma (q : DmaSem sig) (d : Fin 3) : (rd (F := F) m ρ).amount (dC q c) 0 d = amt q := rfl
theorem amt_sB (k : Fin 3) : amt (sB k) = Nb := if_pos (show 3 + k.val < 9 by omega)
theorem amt_rB (k : Fin 3) : amt (rB k) = Nb := if_pos (show 6 + k.val < 9 by omega)
theorem amt_sC (k : Fin 3) : amt (sC k) = Nc := (if_neg (show ¬ 9 + k.val < 9 by omega)).trans (if_pos (show 9 + k.val < 15 by omega))
theorem amt_rC (k : Fin 3) : amt (rC k) = Nc := (if_neg (show ¬ 12 + k.val < 9 by omega)).trans (if_pos (show 12 + k.val < 15 by omega))
theorem amt_cp : amt cpS = Np := rfl

theorem expect_bar : (rd (F := F) m ρ).expect (barC c) 0 = 3 := by
  unfold Schedule.expect Schedule.amountOf
  rw [duties_bar, Finset.sum_congr rfl fun d _ => amount_bar m ρ c d, Finset.sum_const, Finset.card_univ, Fintype.card_fin, smul_eq_mul]
theorem expect_dma (q : DmaSem sig) (hq : 3 ≤ q.val) : (rd (F := F) m ρ).expect (dC q c) 0 = amt q := by
  unfold Schedule.expect Schedule.amountOf; rw [duties_dma m ρ c q hq, Finset.sum_singleton, amount_dma]

theorem payload_bar (d : Fin 3) : (rd (F := F) m ρ).payload (barC c) 0 d = barPay d c := rfl
theorem payload_dma (q : DmaSem sig) (d : Fin 3) : (rd (F := F) m ρ).payload (dC q c) 0 d = dmaPay m ρ q.val c := rfl
theorem pay_sB (k : Fin 3) : dmaPay (F := F) m ρ (sB k).val c = sendB m ρ k c := by fin_cases k <;> rfl
theorem pay_rB (k : Fin 3) : dmaPay (F := F) m ρ (rB k).val c = recvB m ρ k c := by fin_cases k <;> rfl
theorem pay_sC (k : Fin 3) : dmaPay (F := F) m ρ (sC k).val c = sendC m ρ k c := by fin_cases k <;> rfl
theorem pay_rC (k : Fin 3) : dmaPay (F := F) m ρ (rC k).val c = recvC m ρ k c := by fin_cases k <;> rfl
theorem pay_cp : dmaPay (F := F) m ρ cpS.val c = cpPay m ρ c := rfl

/-- What the barrier's three units bring: the three other devices' slots. -/
theorem rest_bar : bigSep ((rd (F := F) m ρ).duties (barC c) 0 \ ∅) (fun d => (rd (F := F) m ρ).payload (barC c) 0 d)
    = iprop(barPay 0 c ∗ barPay 1 c ∗ barPay 2 c) := by
  rw [Finset.sdiff_empty, duties_bar, bigSep_univ_eq_bigSepL [0, 1, 2] (by decide) (by decide)]; rfl
theorem rest_dma (q : DmaSem sig) (hq : 3 ≤ q.val) :
    bigSep ((rd (F := F) m ρ).duties (dC q c) 0 \ ∅) (fun d => (rd (F := F) m ρ).payload (dC q c) 0 d) = dmaPay m ρ q.val c := by
  rw [Finset.sdiff_empty, duties_dma m ρ c q hq, bigSep_singleton, payload_dma]

end Sched

/-! ## What each device owes, and the levels -/

/-- A list of debts as tallies: the head is paid first. -/
def tl : List (GSem nD τ sig × ℕ) → CellTallies nD τ sig Unit
  | [] => 0
  | p :: l => tl l + tallyAt p.1 () p.2

theorem tl_cons (g : GSem nD τ sig) (n : ℕ) (l) : tl ((g, n) :: l) = tl l + tallyAt g () n := rfl

theorem tl_pos {l : List (GSem nD τ sig × ℕ)} {g : GSem nD τ sig} {u : Unit} (h : 0 < tl l g u) : ∃ n, (g, n) ∈ l := by
  induction l with
  | nil => exact absurd h (Nat.lt_irrefl 0)
  | cons p l ih =>
    unfold tl at h
    rw [Pi.add_apply, Finsupp.add_apply] at h
    by_cases hp : 0 < tl l g u
    · obtain ⟨n, hn⟩ := ih hp; exact ⟨n, List.mem_cons_of_mem _ hn⟩
    · rw [Nat.eq_zero_of_not_pos hp, Nat.zero_add, tallyAt_apply] at h
      by_cases hg : g = p.1 ∧ u = ()
      · exact ⟨p.2, by rw [hg.1]; exact List.mem_cons_self⟩
      · rw [if_neg hg] at h; exact absurd h (Nat.lt_irrefl 0)

/-- The debts of device `c`, in the order it pays them: a unit to each barrier, the counts' credit, the messages' credit. -/
def debtB (c : Dev nD) : List (GSem nD τ sig × ℕ) := [(dC (rB 0) (fwd 0 c), Nb), (dC (rB 1) (fwd 1 c), Nb), (dC (rB 2) (fwd 2 c), Nb)]
def debtC (c : Dev nD) : List (GSem nD τ sig × ℕ) :=
  (dC (rC 0) (fwd 0 c), Nc) :: (dC (rC 1) (fwd 1 c), Nc) :: (dC (rC 2) (fwd 2 c), Nc) :: debtB c
def debt (c : Dev nD) : List (GSem nD τ sig × ℕ) := (barC (fwd 0 c), 1) :: (barC (fwd 1 c), 1) :: (barC (fwd 2 c), 1) :: debtC c
def O₀ (c : Dev nD) : CellTallies nD τ sig Unit := tl (debt c)

def L (g : GSem nD τ sig) : Finset Unit := if g.1.2 = .tc then {()} else ∅
/-- Barrier cells at 1, receive cells at 2, everything else at 0. -/
def lv (g : GSem nD τ sig) (_ : Unit) : ℕ :=
  match g.2 with
  | .reg _ => 1
  | .dma q => if (6 ≤ q.val ∧ q.val < 9) ∨ (12 ≤ q.val ∧ q.val < 15) then 2 else 0

theorem L_of_ne (g : GSem nD τ sig) (h : g.1.2 ≠ .tc) : L g = ∅ := if_neg h
theorem L_tc (c : Dev nD) (sm : SemLoc sig) : L ((c : Thread nD τ), sm) = {()} := if_pos rfl

theorem debt_cells (c : Dev nD) : ∀ p ∈ debt c, p.1.1.2 = .tc ∧ 1 ≤ lv p.1 () := by
  intro p hp
  simp only [debt, debtC, debtB, List.mem_cons, List.not_mem_nil, or_false] at hp
  rcases hp with rfl | rfl | rfl | rfl | rfl | rfl | rfl | rfl | rfl <;> exact ⟨rfl, Nat.le_of_ble_eq_true rfl⟩
theorem debtC_cells (c : Dev nD) : ∀ p ∈ debtC c, p.1.1.2 = .tc ∧ 2 ≤ lv p.1 () := by
  intro p hp
  simp only [debtC, debtB, List.mem_cons, List.not_mem_nil, or_false] at hp
  rcases hp with rfl | rfl | rfl | rfl | rfl | rfl <;> exact ⟨rfl, Nat.le_of_ble_eq_true rfl⟩

omit [FloatOps F] in
/-- A wait on a cell below every debt of the list. -/
theorem mayWait_list (c : Dev nD) (sm : SemLoc sig) (n : ℕ) (l : List (GSem nD τ sig × ℕ)) (hs : lv ((c : Thread nD τ), sm) () ≤ n)
    (hl : ∀ p ∈ l, p.1.1.2 = .tc ∧ n + 1 ≤ lv p.1 ()) :
    (levAts L lv : sProp 𝕄) ⊢ MayWait (c : Thread nD τ) sm () (tl l) :=
  MayOwe.of_cut (L := L) (lev := lv) n (fun p hp => by rw [Finset.mem_singleton.mp hp, L_tc]; exact Finset.mem_singleton_self _)
    (fun g u hg => by
      obtain ⟨k, hk⟩ := tl_pos hg
      unfold L; rw [if_pos (hl _ hk).1]; exact Finset.mem_singleton_self _)
    (fun p hp => by rw [Finset.mem_singleton.mp hp]; exact hs)
    (fun g u hg => by
      obtain ⟨k, hk⟩ := tl_pos hg
      exact (hl _ hk).2)

/-! ## The cells, numbered: the barrier, then the thirteen DMA cells -/

abbrev osem : Fin 13 → SemLoc sig := fun i => .dma (⟨i.val + 3, by omega⟩ : Fin 16)
abbrev csem (i : Fin 14) : SemLoc sig := if h : i.val = 0 then .reg barS else .dma (⟨i.val + 2, by omega⟩ : Fin 16)
abbrev kcell (ck : Dev nD × Fin 14) : GSem nD τ sig := ((ck.1 : Thread nD τ), csem ck.2)

/-- That every cell keeps its invariant, and that every cell has begun its round. -/
def records (K : Dev nD × Fin 14 → ℕ) : sProp 𝕄 :=
  iprop((bigSep Finset.univ fun ck : Dev nD × Fin 14 => cellInv ER (rd m ρ) (K ck) (kcell ck))
    ∗ bigSep Finset.univ fun ck : Dev nD × Fin 14 => reached ER (kcell ck) 0)

instance records_persistent (K : Dev nD × Fin 14 → ℕ) : BI.Persistent (records (F := F) m ρ K) := by unfold records; infer_instance

theorem inv_bar (K : Dev nD × Fin 14 → ℕ) (c : Dev nD) : records (F := F) m ρ K ⊢ cellInv ER (rd m ρ) (K (c, 0)) (barC c) :=
  sep_elim_left.trans (bigSep_elim (Finset.mem_univ ((c, 0) : Dev nD × Fin 14)))
theorem inv_dma (K : Dev nD × Fin 14 → ℕ) (c : Dev nD) (i : Fin 14) (q : DmaSem sig) (hq : csem i = .dma q) :
    records (F := F) m ρ K ⊢ cellInv ER (rd m ρ) (K (c, i)) (dC q c) :=
  sep_elim_left.trans ((bigSep_elim (Finset.mem_univ ((c, i) : Dev nD × Fin 14))).trans
    (Entails.of_eq (congrArg (fun s => cellInv ER (rd m ρ) (K (c, i)) ((c : Thread nD τ), s)) hq)))
theorem reached_bar (K : Dev nD × Fin 14 → ℕ) (c : Dev nD) : records (F := F) m ρ K ⊢ reached ER (barC c) 0 :=
  sep_elim_right.trans (bigSep_elim (Finset.mem_univ ((c, 0) : Dev nD × Fin 14)))
theorem reached_dma (K : Dev nD × Fin 14 → ℕ) (c : Dev nD) (i : Fin 14) (q : DmaSem sig) (hq : csem i = .dma q) :
    records (F := F) m ρ K ⊢ reached ER (dC q c) 0 :=
  sep_elim_right.trans ((bigSep_elim (Finset.mem_univ ((c, i) : Dev nD × Fin 14))).trans
    (Entails.of_eq (congrArg (fun s => (reached ER ((c : Thread nD τ), s) 0 : sProp 𝕄)) hq)))

end Cert.KernelIdealProof

end
-- ==== Proof.Slots.lean ====
module
/-
# Slots

The buffers of gathered counts and of messages are held slot by slot. This module says which elements a slot has, splits
a buffer into its slots and joins it again, and reads and writes the contents the protocol names through the slots.
-/
public import proofs.«01_k».proof.Proof.Protocol
public import Idealize.ShloMosaic.Lib.Exec.Geometry
public import Idealize.ShloMosaic.Lib.Pipeline.Value
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## A slot's elements -/

/-- A place in an array of three axes. -/
def i3 {a b c : ℕ} (x : Fin a) (y : Fin b) (z : Fin c) : (⟨3, ![a, b, c]⟩ : Shape).Idx := fun | ⟨0, _⟩ => x | ⟨1, _⟩ => y | ⟨2, _⟩ => z
theorem i3_eta {a b c : ℕ} (i : (⟨3, ![a, b, c]⟩ : Shape).Idx) : i3 (i 0) (i 1) (i 2) = i := by
  funext x; fin_cases x <;> rfl

theorem emb_block {A B C : ℕ} (off : Fin 3 → ℕ) (n : Fin A) (ho : off = ![n.val, 0, 0])
    (inb : ∀ a, off a + (⟨3, ![1, B, C]⟩ : Shape).size a ≤ (⟨3, ![A, B, C]⟩ : Shape).size a) (y : (⟨3, ![1, B, C]⟩ : Shape).Idx) :
    (Rect.unit (s := ⟨3, ![A, B, C]⟩) off (⟨3, ![1, B, C]⟩ : Shape).size inb).emb y = i3 n (y 1) (y 2) := by
  subst ho
  funext a
  apply Fin.ext
  rw [Rect.emb_apply, Rect.off_unit, Rect.stride_unit, Nat.one_mul]
  have h0 : (y 0).val < 1 := (y 0).isLt
  fin_cases a
  · show n.val + (y 0).val = n.val
    omega
  · exact Nat.zero_add _
  · exact Nat.zero_add _

theorem emb_point {A B C : ℕ} (off : Fin 3 → ℕ) (n : Fin A) (p : Fin B) (q : Fin C) (ho : off = ![n.val, p.val, q.val])
    (inb : ∀ a, off a + (⟨3, ![1, 1, 1]⟩ : Shape).size a ≤ (⟨3, ![A, B, C]⟩ : Shape).size a) (y : (⟨3, ![1, 1, 1]⟩ : Shape).Idx) :
    (Rect.unit (s := ⟨3, ![A, B, C]⟩) off (⟨3, ![1, 1, 1]⟩ : Shape).size inb).emb y = i3 n p q := by
  subst ho
  funext a
  apply Fin.ext
  rw [Rect.emb_apply, Rect.off_unit, Rect.stride_unit, Nat.one_mul]
  have h0 : (y 0).val < 1 := (y 0).isLt
  have h1 : (y 1).val < 1 := (y 1).isLt
  have h2 : (y 2).val < 1 := (y 2).isLt
  fin_cases a
  · show n.val + (y 0).val = n.val
    omega
  · show p.val + (y 1).val = p.val
    omega
  · show q.val + (y 2).val = q.val
    omega

theorem mem_block {A B C : ℕ} (off : Fin 3 → ℕ) (n : Fin A) (ho : off = ![n.val, 0, 0])
    (inb : ∀ a, off a + (⟨3, ![1, B, C]⟩ : Shape).size a ≤ (⟨3, ![A, B, C]⟩ : Shape).size a) (i : (⟨3, ![A, B, C]⟩ : Shape).Idx) :
    i ∈ (Rect.unit (s := ⟨3, ![A, B, C]⟩) off (⟨3, ![1, B, C]⟩ : Shape).size inb).set ↔ i 0 = n := by
  rw [← Rect.map_emb_univ, Finset.mem_map]
  constructor
  · rintro ⟨y, -, hy⟩
    rw [emb_block off n ho inb y] at hy
    rw [← hy]; rfl
  · intro h
    refine ⟨i3 (0 : Fin 1) (i 1) (i 2), Finset.mem_univ _, ?_⟩
    rw [emb_block off n ho inb, ← h]
    exact i3_eta i

abbrev cgI (s : Dev nD) : Finset S4x8x128.Idx := (cgS s).view.set
abbrev rbI (s : Dev nD) : Finset S4x288x512.Idx := (rbS s).view.set
abbrev sbI (k : Fin 3) : Finset S3x288x512.Idx := (sbS k).view.set

theorem cgI_eq (s : Dev nD) : cgI s = (Rect.unit (s := S4x8x128) (k0_off1 s) S1x8x128.size (k0_off1_inb s)).set :=
  (Memref.set_view_squeeze _ _).trans (View.set_slice_whole _ _)
theorem rbI_eq (s : Dev nD) : rbI s = (Rect.unit (s := S4x288x512) (k0_off2 s) S1x288x512.size (k0_off2_inb s)).set :=
  (Memref.set_view_squeeze _ _).trans (View.set_slice_whole _ _)
theorem sbI_eq (k : Fin 3) : sbI k = (Rect.unit (s := S3x288x512) (sbOff k) S1x288x512.size (sbOff_inb k)).set :=
  (Memref.set_view_squeeze _ _).trans (View.set_slice_whole _ _)

theorem mem_cg (s : Dev nD) (i : S4x8x128.Idx) : i ∈ cgI s ↔ i 0 = s := by
  rw [cgI_eq]; exact mem_block (k0_off1 s) s (off1_eq s) (k0_off1_inb s) i
theorem mem_rb (s : Dev nD) (i : S4x288x512.Idx) : i ∈ rbI s ↔ i 0 = s := by
  rw [rbI_eq]; exact mem_block (k0_off2 s) s (off2_eq s) (k0_off2_inb s) i
theorem mem_sb (k : Fin 3) (i : S3x288x512.Idx) : i ∈ sbI k ↔ i 0 = k := by
  rw [sbI_eq]; exact mem_block (sbOff k) k (sbOff_eq k) (sbOff_inb k) i

def ixR (x : Fin 288) (y : Fin 512) : S288x512.Idx := fun | ⟨0, _⟩ => x | ⟨1, _⟩ => y

theorem emb_cg (s : Dev nD) (x : S8x128.Idx) : ((cgS s).view.emb x : S4x8x128.Idx) = i3 s (x 0) (x 1) :=
  (congrArg (Rect.unit (s := S4x8x128) (k0_off1 s) S1x8x128.size (k0_off1_inb s)).emb (Shape.reshapeEquiv_cons_one _ x)).trans
    (emb_block (k0_off1 s) s (off1_eq s) (k0_off1_inb s) _)
theorem emb_rb (s : Dev nD) (x : S288x512.Idx) : ((rbS s).view.emb x : S4x288x512.Idx) = i3 s (x 0) (x 1) :=
  (congrArg (Rect.unit (s := S4x288x512) (k0_off2 s) S1x288x512.size (k0_off2_inb s)).emb (Shape.reshapeEquiv_cons_one _ x)).trans
    (emb_block (k0_off2 s) s (off2_eq s) (k0_off2_inb s) _)
theorem emb_sb (k : Fin 3) (x : S288x512.Idx) : ((sbS k).view.emb x : S3x288x512.Idx) = i3 k (x 0) (x 1) :=
  (congrArg (Rect.unit (s := S3x288x512) (sbOff k) S1x288x512.size (sbOff_inb k)).emb (Shape.reshapeEquiv_cons_one _ x)).trans
    (emb_block (sbOff k) k (sbOff_eq k) (sbOff_inb k) _)

/-! ## What a transfer leaves -/

/-- The counts of `c`, landed in slot `c` of `d`. -/
theorem land_cg (c : Dev nD) (f : S4x8x128.Idx → Elt F .i32) :
    ∀ i ∈ cgI c, ((cgS c).view.write (Elt F) f (cntV (F := F) (dstg m ρ c)) Finset.univ : S4x8x128.Idx → Elt F .i32) i = cgC m ρ i := by
  intro i hi
  have e : (cgS c).view.emb (ixC (i 1) (i 2)) = i := by
    refine (emb_cg c _).trans ?_
    rw [← (mem_cg c i).mp hi]; exact i3_eta i
  have h := View.write_emb_of_mem (v := (cgS c).view) (Val := Elt F) f (cntV (F := F) (dstg m ρ c)) (M := Finset.univ) (x := ixC (i 1) (i 2)) (Finset.mem_univ _)
  rw [e] at h
  refine h.trans ?_
  show cntV (F := F) (dstg m ρ c) (ixC (i 1) (i 2)) = cntV (F := F) (dstg m ρ (i 0)) (ixC (i 1) (i 2))
  exact congrArg (fun s => cntV (F := F) (dstg m ρ s) (ixC (i 1) (i 2))) ((mem_cg c i).mp hi).symm

/-- The message for `d` of `c`, landed in slot `c` of `d`. -/
theorem land_rb (k : Fin 3) (c : Dev nD) (f : S4x288x512.Idx → Elt F .f32) :
    ∀ i ∈ rbI c, ((rbS c).view.write (Elt F) f ((sbS k).view.read (Elt F) (sbC m ρ c)) Finset.univ : S4x288x512.Idx → Elt F .f32) i = rbC m ρ (fwd k c) i := by
  intro i hi
  have e : (rbS c).view.emb (ixR (i 1) (i 2)) = i := by
    refine (emb_rb c _).trans ?_
    rw [← (mem_rb c i).mp hi]; exact i3_eta i
  have h := View.write_emb_of_mem (v := (rbS c).view) (Val := Elt F) f ((sbS k).view.read (Elt F) (sbC m ρ c)) (M := Finset.univ) (x := ixR (i 1) (i 2)) (Finset.mem_univ _)
  rw [e] at h
  refine h.trans ?_
  refine (congrArg (sbC m ρ c) (emb_sb k (ixR (i 1) (i 2)))).trans ?_
  show msgV k c (dstg m ρ c) (xstg m ρ c) (ixB (i 1) (i 2)) = msgV (kOf (i 0) (fwd k c)) (i 0) (dstg m ρ (i 0)) (xstg m ρ (i 0)) (ixB (i 1) (i 2))
  rw [(mem_rb c i).mp hi]
  exact congrArg (fun k' => msgV k' c (dstg m ρ c) (xstg m ρ c) (ixB (i 1) (i 2))) (kOf_fwd k c).symm

/-- A message stored in its slot. -/
theorem store_sb (k : Fin 3) (c : Dev nD) (off : Fin 3 → ℕ) (ho : off = ![k.val, 0, 0]) (inb : ∀ a, off a + S1x288x512.size a ≤ S3x288x512.size a)
    (f : S3x288x512.Idx → Elt F .f32) :
    ∀ i ∈ sbI k, ((sbM.access (Rect.unit (s := S3x288x512) off S1x288x512.size inb)).write (Elt F) f (msgV k c (dstg m ρ c) (xstg m ρ c)) Finset.univ
      : S3x288x512.Idx → Elt F .f32) i = sbC m ρ c i := by
  intro i hi
  have e : (sbM.access (Rect.unit (s := S3x288x512) off S1x288x512.size inb)).emb (ixB (i 1) (i 2)) = i := by
    refine (emb_block off k ho inb _).trans ?_
    rw [← (mem_sb k i).mp hi]; exact i3_eta i
  have h := View.write_emb_of_mem (v := sbM.access (Rect.unit (s := S3x288x512) off S1x288x512.size inb)) (Val := Elt F) f (msgV k c (dstg m ρ c) (xstg m ρ c)) (M := Finset.univ) (x := ixB (i 1) (i 2)) (Finset.mem_univ _)
  rw [e] at h
  refine h.trans ?_
  show msgV k c (dstg m ρ c) (xstg m ρ c) (ixB (i 1) (i 2)) = msgV (i 0) c (dstg m ρ c) (xstg m ρ c) (ixB (i 1) (i 2))
  exact congrArg (fun k' => msgV k' c (dstg m ρ c) (xstg m ρ c) (ixB (i 1) (i 2))) ((mem_sb k i).mp hi).symm

theorem access_sb_set (k : Fin 3) (off : Fin 3 → ℕ) (ho : off = ![k.val, 0, 0]) (inb : ∀ a, off a + S1x288x512.size a ≤ S3x288x512.size a) :
    (sbM.access (Rect.unit (s := S3x288x512) off S1x288x512.size inb)).set ⊆ sbI k := by
  intro i hi
  exact (mem_sb k i).mpr ((mem_block off k ho inb i).mp ((View.set_slice_whole cc0_scratch0 (Rect.unit (s := S3x288x512) off S1x288x512.size inb)) ▸ hi))

/-- The device's own counts, stored in their slot. -/
theorem store_cg (c : Dev nD) (f : S4x8x128.Idx → Elt F .i32) :
    ∀ i ∈ cgI c, ((cgM.access (Rect.unit (s := S4x8x128) (k0_off3 c) S1x8x128.size (k0_off3_inb c))).write (Elt F) f (k0_pay12 (F := F) (cntV (F := F) (dstg m ρ c))) Finset.univ
      : S4x8x128.Idx → Elt F .i32) i = cgC m ρ i := by
  intro i hi
  have e : (cgM.access (Rect.unit (s := S4x8x128) (k0_off3 c) S1x8x128.size (k0_off3_inb c))).emb (i3 (0 : Fin 1) (i 1) (i 2)) = i := by
    refine (emb_block (k0_off3 c) c (off3_eq c) (k0_off3_inb c) _).trans ?_
    rw [← (mem_cg c i).mp hi]; exact i3_eta i
  have h := View.write_emb_of_mem (v := cgM.access (Rect.unit (s := S4x8x128) (k0_off3 c) S1x8x128.size (k0_off3_inb c))) (Val := Elt F) f
    (k0_pay12 (F := F) (cntV (F := F) (dstg m ρ c))) (M := Finset.univ) (x := i3 (0 : Fin 1) (i 1) (i 2)) (Finset.mem_univ _)
  rw [e] at h
  refine h.trans ?_
  show k0_pay12 (F := F) (cntV (F := F) (dstg m ρ c)) (i3 (0 : Fin 1) (i 1) (i 2)) = cntV (F := F) (dstg m ρ (i 0)) (ixC (i 1) (i 2))
  rw [(mem_cg c i).mp hi]
  generalize cntV (F := F) (dstg m ρ c) = v
  unfold k0_pay12
  show shapeCast S1x8x128 (shapeCast S1x8x128 v shapeCasts_S8x128_S1x8x128) shapeCasts_S1x8x128_S1x8x128 (i3 (0 : Fin 1) (i 1) (i 2)) = _
  rw [shapeCast_self]
  refine congrArg v ?_
  exact Shape.reshapeEquiv_eq_of_rowMajor _ (by
    rw [Shape.rowMajor_val_three, Shape.rowMajor_val_two]
    show (i 1).val * 128 + (i 2).val = (0 * 8 + (i 1).val) * 128 + (i 2).val
    omega)

theorem access_cg_set (c : Dev nD) :
    (cgM.access (Rect.unit (s := S4x8x128) (k0_off3 c) S1x8x128.size (k0_off3_inb c))).set ⊆ cgI c := by
  intro i hi
  exact (mem_cg c i).mpr ((mem_block (k0_off3 c) c (off3_eq c) (k0_off3_inb c) i).mp
    ((View.set_slice_whole cc0_scratch3 (Rect.unit (s := S4x8x128) (k0_off3 c) S1x8x128.size (k0_off3_inb c))) ▸ hi))

/-- A message read back from slot `s` of device `d`. -/
theorem read_rb (k : Fin 3) (d : Dev nD) (off : Fin 3 → ℕ) (ho : off = ![(bwd k d).val, 0, 0]) (inb : ∀ a, off a + S1x288x512.size a ≤ S4x288x512.size a) :
    (rbM : Memref sig .tc .vmem S4x288x512 .f32).view.readAt (Elt F) (Rect.unit (s := S4x288x512) off S1x288x512.size inb).toLoadRect (rbC m ρ d)
      = msgV k (bwd k d) (dstg m ρ (bwd k d)) (xstg m ρ (bwd k d)) := by
  funext j
  refine (congrArg (rbC m ρ d) (emb_block off (bwd k d) ho inb j)).trans ?_
  show msgV (kOf (bwd k d) d) (bwd k d) (dstg m ρ (bwd k d)) (xstg m ρ (bwd k d)) (ixB (j 1) (j 2)) = _
  rw [kOf_bwd]
  refine congrArg _ ?_
  funext a
  fin_cases a
  · exact Subsingleton.elim (α := Fin 1) _ _
  · rfl
  · rfl

theorem access_rb_set (s : Dev nD) (off : Fin 3 → ℕ) (ho : off = ![s.val, 0, 0]) (inb : ∀ a, off a + S1x288x512.size a ≤ S4x288x512.size a) :
    ((rbM : Memref sig .tc .vmem S4x288x512 .f32).access (Rect.unit (s := S4x288x512) off S1x288x512.size inb)).set ⊆ rbI s := by
  intro i hi
  exact (mem_rb s i).mpr ((mem_block off s ho inb i).mp
    ((View.set_slice_whole cc0_scratch2 (Rect.unit (s := S4x288x512) off S1x288x512.size inb)) ▸ hi))

/-- A device's number as a lane. -/
def lane (d : Dev nD) : Fin 128 := ⟨d.val, Nat.lt_of_lt_of_le d.isLt (by decide)⟩
def row7 : Fin 8 := ⟨7, by decide⟩

/-- The number of rows device `s` has for device `d`, as `d` reads it. -/
def cntAt (s d : Dev nD) : BitVec 32 := cntV (F := F) (dstg m ρ s) (ixC row7 (lane d))

theorem read_cs (s d : Dev nD) (off : Fin 3 → ℕ) (ho : off = ![s.val, 7, d.val]) (inb : ∀ a, off a + S1x1x1.size a ≤ S4x8x128.size a) (x : S1x1x1.Idx) :
    ((csM : Memref sig .tc .smem S4x8x128 .i32).access (Rect.unit (s := S4x8x128) off S1x1x1.size inb)).read (Elt F) (cgC m ρ) x = cntAt m ρ s d := by
  have e := emb_point off s row7 (lane d) ho inb x
  have h : cgC m ρ ((Rect.unit (s := S4x8x128) off S1x1x1.size inb).emb x) = cgC m ρ (i3 s row7 (lane d)) := congrArg (cgC m ρ) e
  have h2 : cgC m ρ (i3 s row7 (lane d)) = cntAt m ρ s d := by unfold cgC cntAt; rfl
  exact h.trans h2

/-! ## Splitting and joining -/

section Split
variable (c : Dev nD)

omit [FloatOps F] in
theorem cg_disj (s s' : Dev nD) (h : s ≠ s') : Disjoint (cgI s) (cgI s') := by
  rw [Finset.disjoint_left]
  intro i hi hi'
  exact h (((mem_cg s i).mp hi).symm.trans ((mem_cg s' i).mp hi'))
omit [FloatOps F] in
theorem rb_disj (s s' : Dev nD) (h : s ≠ s') : Disjoint (rbI s) (rbI s') := by
  rw [Finset.disjoint_left]
  intro i hi hi'
  exact h (((mem_rb s i).mp hi).symm.trans ((mem_rb s' i).mp hi'))
omit [FloatOps F] in
theorem sb_disj (s s' : Fin 3) (h : s ≠ s') : Disjoint (sbI s) (sbI s') := by
  rw [Finset.disjoint_left]
  intro i hi hi'
  exact h (((mem_sb s i).mp hi).symm.trans ((mem_sb s' i).mp hi'))

theorem cg_univ : (Finset.univ : Finset (Dev nD)).biUnion cgI = Finset.univ := by
  ext i; simp only [Finset.mem_biUnion, Finset.mem_univ, true_and, iff_true]; exact ⟨i 0, (mem_cg _ i).mpr rfl⟩
theorem rb_univ : (Finset.univ : Finset (Dev nD)).biUnion rbI = Finset.univ := by
  ext i; simp only [Finset.mem_biUnion, Finset.mem_univ, true_and, iff_true]; exact ⟨i 0, (mem_rb _ i).mpr rfl⟩
theorem sb_univ : (Finset.univ : Finset (Fin 3)).biUnion sbI = Finset.univ := by
  ext i; simp only [Finset.mem_biUnion, Finset.mem_univ, true_and, iff_true]; exact ⟨i 0, (mem_sb _ i).mpr rfl⟩

omit [FloatOps F] in
theorem devs4 (c : Dev nD) (Φ : Dev nD → sProp 𝕄) : bigSep Finset.univ Φ = iprop(Φ c ∗ Φ (fwd 0 c) ∗ Φ (fwd 1 c) ∗ Φ (fwd 2 c)) := by
  rw [bigSep_univ_eq_bigSepL [c, fwd 0 c, fwd 1 c, fwd 2 c] (by revert c; decide) (by revert c; decide)]; rfl

omit [FloatOps F] in
/-- The counts buffer in its four slots; -/
theorem cg_split (f : Buf (Elt F) ((c : Thread nD τ).loc cc0_scratch3)) :
    ((((c : Thread nD τ).loc cc0_scratch3) ↦{fullShare} f) : sProp 𝕄) = iprop(cgPts c c f ∗ cgPts c (fwd 0 c) f ∗ cgPts c (fwd 1 c) f ∗ cgPts c (fwd 2 c) f) := by
  rw [← devs4 c (fun s => cgPts c s f)]
  exact Ring.pointsTo_blocks (Ix := Unit) (Val := Elt F) (Name := ℕ) (U := UU) (Lvl := ℕ) (ℓ := (c : Thread nD τ).loc cc0_scratch3) (B := Dev nD) cgI cg_disj cg_univ (q := fullShare) f
omit [FloatOps F] in
/-- the received messages in theirs, and back; -/
theorem rb_split (f : Buf (Elt F) ((c : Thread nD τ).loc cc0_scratch2)) :
    ((((c : Thread nD τ).loc cc0_scratch2) ↦{fullShare} f) : sProp 𝕄) = iprop(rbPts c c f ∗ rbPts c (fwd 0 c) f ∗ rbPts c (fwd 1 c) f ∗ rbPts c (fwd 2 c) f) := by
  rw [← devs4 c (fun s => rbPts c s f)]
  exact Ring.pointsTo_blocks (Ix := Unit) (Val := Elt F) (Name := ℕ) (U := UU) (Lvl := ℕ) (ℓ := (c : Thread nD τ).loc cc0_scratch2) (B := Dev nD) rbI rb_disj rb_univ (q := fullShare) f
omit [FloatOps F] in
theorem rb_join (f g : Buf (Elt F) ((c : Thread nD τ).loc cc0_scratch2)) :
    iprop(rbPts c c f ∗ rbPts c (fwd 0 c) g ∗ rbPts c (fwd 1 c) g ∗ rbPts c (fwd 2 c) g)
      ⊢ (iprop(∃ h, (((c : Thread nD τ).loc cc0_scratch2) ↦{fullShare} h)) : sProp 𝕄) := by
  have hj := Ring.pointsTo_blocks_join_exists (Ix := Unit) (Val := Elt F) (Name := ℕ) (U := UU) (Lvl := ℕ) (ℓ := (c : Thread nD τ).loc cc0_scratch2) (B := Dev nD)
    rbI rb_disj rb_univ (q := fullShare) f
  rw [devs4 c] at hj
  refine BIBase.Entails.trans ?_ hj
  unfold rbPts
  iintro ⟨H1, H2, H3, H4⟩
  isplitl [H1]; · iexists f; iexact H1
  isplitl [H2]; · iexists g; iexact H2
  isplitl [H3]; · iexists g; iexact H3
  iexists g; iexact H4
omit [FloatOps F] in
/-- and the messages to send. -/
theorem sb_split (f : Buf (Elt F) ((c : Thread nD τ).loc cc0_scratch0)) :
    ((((c : Thread nD τ).loc cc0_scratch0) ↦{fullShare} f) : sProp 𝕄) = iprop(sbPts c 0 f ∗ sbPts c 1 f ∗ sbPts c 2 f) := by
  have h3 : bigSep (Finset.univ : Finset (Fin 3)) (fun k => sbPts (F := F) c k f) = iprop(sbPts c 0 f ∗ sbPts c 1 f ∗ sbPts c 2 f) := by
    rw [bigSep_univ_eq_bigSepL [0, 1, 2] (by decide) (by decide)]; rfl
  rw [← h3]
  exact Ring.pointsTo_blocks (Ix := Unit) (Val := Elt F) (Name := ℕ) (U := UU) (Lvl := ℕ) (ℓ := (c : Thread nD τ).loc cc0_scratch0) (B := Fin 3) sbI sb_disj sb_univ (q := fullShare) f

omit [FloatOps F] in
theorem ct_split (f : Buf (Elt F) ((ctM).view.loc (c : Thread nD τ))) :
    ctPts c fullShare f = iprop(ctPts c (qsh 0) f ∗ ctPts c (qsh 1) f ∗ ctPts c (qsh 2) f ∗ ctPts c qkeep f) := by
  have h (q : PosShare TreeShare) : ctPts (F := F) c q f = iprop(ctPts c q.left f ∗ ctPts c q.right f) := by
    unfold ctPts
    exact equiv_iff.mp ⟨(pointsTo_share (PosShare.mem_left_op_right q)).1, (pointsTo_share (PosShare.mem_left_op_right q)).2⟩
  rw [h fullShare, h fullShare.right, h fullShare.right.right]; rfl

end Split

end Cert.KernelIdealProof

end
-- ==== Proof.Steps.lean ====
module
/-
# The protocol's steps

One rule per communication of the body: a signal to another device's barrier, the wait on one's own, a transfer of
counts, a transfer of a message, the local copy, and the wait on a DMA cell, which also closes the cell.
-/
public import proofs.«01_k».proof.Proof.Slots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What `c` still owes, whatever waits it has recorded. -/
def ow (c : Dev nD) (l : List (GSem nD τ sig × ℕ)) : sProp 𝕄 := iprop(∃ W, owes (c : Thread nD τ) (tl l) W)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (K : Dev nD × Fin 14 → ℕ) (c : Dev nD)

theorem step_signal (j : Fin 3) (n : Dev nD) (hn : n = fwd j c) (l : List (GSem nD τ sig × ℕ)) {k' : ℕ} (hk : 1 = k')
    {α : Type} {k : PUnit → Prog (TpuEff nD τ sig (Elt F) Λ₀ .tc) α} {Q : α → sProp 𝕄} :
    iprop(records m ρ K ∗ ow c ((barC (fwd j c), 1) :: l) ∗ dutyTok ER (barC (fwd j c)) 0 j
        ∗ (∃ f, cgPts (F := F) c (fwd j c) f) ∗ (∃ f, rbPts (F := F) c (fwd j c) f))
      ⊢ iprop((ow c l -∗ WP c (k ⟨⟩) Q) -∗ WP c (.op (.semSignal (n : Thread nD τ) barS k') k) Q) := by
  subst hn
  unfold ow
  iintro ⟨#HR, ⟨%W, HO⟩, Ht, Hc, Hb⟩ Hk
  iapply (Rounds.wp_signal 𝒱₀ ER (rd m ρ) (c : Thread nD τ) none (dst := (fwd j c : Thread nD τ)) (κ := K (fwd j c, 0))
      (r := 0) (d := j) (by rw [duties_bar]; exact Finset.mem_univ _) ((amount_bar m ρ (fwd j c) j).trans hk) () (O₀ := tl ((barC (fwd j c), 1) :: l)) (tl l)
      (by rw [tl_cons, hk]) (W := W))
    $$ [HO Ht Hc Hb]
  · isplitr; · iapply (inv_bar m ρ K (fwd j c)); iexact HR
    isplitl [HO]; · iexact HO
    isplitl [Ht]; · iexact Ht
    isplitl [Hc Hb]
    · rw [payload_bar]; unfold barPay; rw [bwd_fwd]
      isplitl [Hc]; · iexact Hc
      iexact Hb
    iapply (reached_bar m ρ K (fwd j c)); iexact HR
  iintro HO
  iapply Hk
  iexists W; iexact HO

theorem step_barrier (l : List (GSem nD τ sig × ℕ)) (hl : ∀ p ∈ l, p.1.1.2 = .tc ∧ 2 ≤ lv p.1 ()) {k' : ℕ} (hk : 3 = k')
    {α : Type} {k : PUnit → Prog (TpuEff nD τ sig (Elt F) Λ₀ .tc) α} {Q : α → sProp 𝕄} :
    iprop(records m ρ K ∗ levAts L lv ∗ ow c l ∗ cred (tallyAt (barC c) () 3) ∗ atPos ER (barC c) 0 ∅ 0)
      ⊢ iprop(((ow c l ∗ semVal (barC c) 0 ∗ barPay 0 c ∗ barPay 1 c ∗ barPay 2 c) -∗ WP c (k ⟨⟩) Q)
          -∗ WP c (.op (.semWait barS k') k) Q) := by
  subst hk
  unfold ow
  iintro ⟨#HR, #Hlev, ⟨%W, HO⟩, Hc, Hat⟩ Hk
  iapply (Rounds.wp_wait_rest_token 𝒱₀ ER (rd m ρ) (c : Thread nD τ) none (sm := .reg barS) (κ := K (c, 0))
      (wpE_semWait_eq 𝒱₀ (c : Thread nD τ) none Set.univ) (Set.mem_univ _) () (O := tl l) (W := W) (R := 0) (m := 0) (T := ∅)
      (by rw [Nat.zero_add, expect_bar])) $$ [Hc HO Hat]
  · isplitr; · iapply (inv_bar m ρ K c); iexact HR
    isplitl [Hc]; · iexact Hc
    isplitl [HO]; · iexact HO
    isplitr; · iapply (mayWait_list c (.reg barS) 1 l (Nat.le_refl _) hl); iexact Hlev
    iexact Hat
  iintro ⟨HO, Hat, -, Hpay⟩
  ihave Hp := (Entails.of_eq (rest_bar m ρ c)) $$ Hpay
  imod (Rounds.cell_close ER (rd m ρ) (Set.mem_univ (K (c, 0))) (fun h => h) (R := 0 + 1) (duties_later m ρ (barC c))) $$ [Hat] with Hz
  · isplitr; · iapply (inv_bar m ρ K c); iexact HR
    iexact Hat
  iapply Hk
  isplitl [HO]; · iexists _; iexact HO
  isplitl [Hz]; · iexact Hz
  iexact Hp

theorem step_wait (q : DmaSem sig) (i : Fin 14) (hi : csem i = .dma q) (hq : 3 ≤ q.val)
    {sp sp' : Space} {s s' : Shape} {e e' : EltTy} {src : Memref sig .tc sp' s' e'} {dst : Memref sig .tc sp s e} {hsrc : src.view.WordExact} {hdst : dst.view.WordExact}
    (ha : dst.view.dmaCredit = amt q)
    {α : Type} {k : PUnit → Prog (TpuEff nD τ sig (Elt F) Λ₀ .tc) α} {Q : α → sProp 𝕄} :
    iprop(records m ρ K ∗ ow c [] ∗ cred (tallyAt (dC q c) () (amt q)) ∗ atPos ER (dC q c) 0 ∅ 0)
      ⊢ iprop(((ow c [] ∗ semVal (dC q c) 0 ∗ dmaPay m ρ q.val c) -∗ WP c (k ⟨⟩) Q)
          -∗ WP c (.op (.waitDma2 q src dst hsrc hdst) k) Q) := by
  unfold ow
  rw [← ha]
  iintro ⟨#HR, ⟨%W, HO⟩, Hc, Hat⟩ Hk
  iapply (Rounds.wp_wait_rest_token 𝒱₀ ER (rd m ρ) (c : Thread nD τ) none (sm := .dma q) (κ := K (c, i))
      (wpE_waitDma2_eq 𝒱₀ (c : Thread nD τ) none Set.univ) (Set.mem_univ _) () (O := tl []) (W := W) (R := 0) (m := 0) (T := ∅)
      (by rw [Nat.zero_add, expect_dma m ρ c q hq, ha])) $$ [Hc HO Hat]
  · isplitr; · iapply (inv_dma m ρ K c i q hi); iexact HR
    isplitl [Hc]; · iexact Hc
    isplitl [HO]; · iexact HO
    isplitr
    · rw [show tl [] = (0 : CellTallies nD τ sig Unit) from rfl, MayWait_zero]; iempintro
    iexact Hat
  iintro ⟨HO, Hat, -, Hpay⟩
  ihave Hp := (Entails.of_eq (rest_dma m ρ c q hq)) $$ Hpay
  imod (Rounds.cell_close ER (rd m ρ) (Set.mem_univ (K (c, i))) (fun h => h) (R := 0 + 1) (duties_later m ρ (dC q c))) $$ [Hat] with Hz
  · isplitr; · iapply (inv_dma m ρ K c i q hi); iexact HR
    iexact Hat
  iapply Hk
  isplitl [HO]; · iexists _; iexact HO
  isplitl [Hz]; · iexact Hz
  iexact Hp

theorem mem_duty (q : DmaSem sig) (hq : 3 ≤ q.val) (d : Dev nD) : (0 : Fin 3) ∈ (rd (F := F) m ρ).duties (dC q d) 0 := by
  rw [duties_dma m ρ d q hq]; exact Finset.mem_singleton_self _

/-- Cell numbers of the four families. -/
def iSB (j : Fin 3) : Fin 14 := ⟨1 + j.val, by omega⟩
def iRB (j : Fin 3) : Fin 14 := ⟨4 + j.val, by omega⟩
def iSC (j : Fin 3) : Fin 14 := ⟨7 + j.val, by omega⟩
def iRC (j : Fin 3) : Fin 14 := ⟨10 + j.val, by omega⟩
def iCP : Fin 14 := ⟨13, by omega⟩
theorem csem_SB (j : Fin 3) : csem (iSB j) = .dma (sB j) := by fin_cases j <;> rfl
theorem csem_RB (j : Fin 3) : csem (iRB j) = .dma (rB j) := by fin_cases j <;> rfl
theorem csem_SC (j : Fin 3) : csem (iSC j) = .dma (sC j) := by fin_cases j <;> rfl
theorem csem_RC (j : Fin 3) : csem (iRC j) = .dma (rC j) := by fin_cases j <;> rfl
theorem csem_CP : csem iCP = .dma cpS := rfl
theorem ge_SB (j : Fin 3) : 3 ≤ (sB j).val := Nat.le_add_right 3 _
theorem ge_RB (j : Fin 3) : 3 ≤ (rB j).val := show 3 ≤ 6 + j.val by omega
theorem ge_SC (j : Fin 3) : 3 ≤ (sC j).val := show 3 ≤ 9 + j.val by omega
theorem ge_RC (j : Fin 3) : 3 ≤ (rC j).val := show 3 ≤ 12 + j.val by omega

theorem step_sendC (j : Fin 3) (n : Dev nD) (hn : n = fwd j c) (l : List (GSem nD τ sig × ℕ))
    {hsc : (cgS c : Memref sig (Dev.tc n : Thread nD τ).2.kind .vmem S8x128 .i32).view.ref.isScScratch = false}
    {hsrc : (ctM : Memref sig .tc .vmem S8x128 .i32).view.WordExact} {hdst : (cgS c).view.WordExact}
    {hsem : DmaTarget.Typed .vmem (.dma (rC j)) (.remote (Dev.tc n : Thread nD τ) (cgS c) (.dma (sC j)) hsc)}
    {f : Buf (Elt F) ((cgS c).view.loc (fwd j c : Thread nD τ))}
    {α : Type} {k : PUnit → Prog (TpuEff nD τ sig (Elt F) Λ₀ .tc) α} {Q : α → sProp 𝕄} :
    iprop(records m ρ K ∗ ow c ((dC (rC j) (fwd j c), Nc) :: l) ∗ ctPts c (qsh j) (cntV (F := F) (dstg m ρ c)) ∗ cgPts (fwd j c) c f
        ∗ dutyTok ER (dC (sC j) c) 0 0 ∗ dutyTok ER (dC (rC j) (fwd j c)) 0 0)
      ⊢ iprop(((ow c l ∗ cred (tallyAt (dC (sC j) c) () (amt (sC j)))) -∗ WP c (k ⟨⟩) Q)
          -∗ WP c (.op (.enqueueDma ctM (.remote (Dev.tc n : Thread nD τ) (cgS c) (.dma (sC j)) hsc) (.dma (rC j)) hsrc hdst hsem) k) Q) := by
  subst hn
  rw [amt_sC]
  unfold ow ctPts cgPts
  iintro ⟨#HR, ⟨%W, HO⟩, Hs, Hd, Ht1, Ht2⟩ Hk
  iapply (Rounds.wp_send_pointsTo 𝒱₀ ER (rd m ρ) (c : Thread nD τ) none (κ₁ := K (c, iSC j)) (κ₂ := K (fwd j c, iRC j))
    (r₁ := 0) (r₂ := 0) (d₁ := 0) (d₂ := 0) (fd := f)
    (mem_duty m ρ (sC j) (ge_SC j) c) (mem_duty m ρ (rC j) (ge_RC j) (fwd j c))
    () () Nc rfl ((amount_dma m ρ c (sC j) 0).trans (amt_sC j)) ((amount_dma m ρ (fwd j c) (rC j) 0).trans (amt_rC j)) (tl l) (tl_cons _ _ _) (W := W)
    (by rw [payload_dma, pay_sC]; exact BI.Entails.refl _)
    (by
      rw [payload_dma, pay_rC]; unfold recvC cgPts
      rw [bwd_fwd]
      exact Entails.of_eq (pointsTo_congr (land_cg m ρ c f)))) $$ [HO Hs Hd Ht1 Ht2]
  · isplitr; · iapply (inv_dma m ρ K c (iSC j) (sC j) (csem_SC j)); iexact HR
    isplitr; · iapply (inv_dma m ρ K (fwd j c) (iRC j) (rC j) (csem_RC j)); iexact HR
    isplitl [Hs]; · iexact Hs
    isplitl [Hd]; · iexact Hd
    isplitl [HO]; · iexact HO
    isplitl [Ht1]; · iexact Ht1
    isplitr; · iapply (reached_dma m ρ K c (iSC j) (sC j) (csem_SC j)); iexact HR
    isplitl [Ht2]; · iexact Ht2
    iapply (reached_dma m ρ K (fwd j c) (iRC j) (rC j) (csem_RC j)); iexact HR
  iintro ⟨Hc, HO⟩
  iapply Hk
  isplitl [HO]; · iexists W; iexact HO
  iexact Hc

theorem step_sendB (j : Fin 3) (n : Dev nD) (hn : n = fwd j c) (l : List (GSem nD τ sig × ℕ))
    {hsc : (rbS c : Memref sig (Dev.tc n : Thread nD τ).2.kind .vmem S288x512 .f32).view.ref.isScScratch = false}
    {hsrc : (sbS j).view.WordExact} {hdst : (rbS c).view.WordExact}
    {hsem : DmaTarget.Typed .vmem (.dma (rB j)) (.remote (Dev.tc n : Thread nD τ) (rbS c) (.dma (sB j)) hsc)}
    {f : Buf (Elt F) ((rbS c).view.loc (fwd j c : Thread nD τ))}
    {α : Type} {k : PUnit → Prog (TpuEff nD τ sig (Elt F) Λ₀ .tc) α} {Q : α → sProp 𝕄} :
    iprop(records m ρ K ∗ ow c ((dC (rB j) (fwd j c), Nb) :: l) ∗ sbPts c j (sbC m ρ c) ∗ rbPts (fwd j c) c f
        ∗ dutyTok ER (dC (sB j) c) 0 0 ∗ dutyTok ER (dC (rB j) (fwd j c)) 0 0)
      ⊢ iprop(((ow c l ∗ cred (tallyAt (dC (sB j) c) () (amt (sB j)))) -∗ WP c (k ⟨⟩) Q)
          -∗ WP c (.op (.enqueueDma (sbS j) (.remote (Dev.tc n : Thread nD τ) (rbS c) (.dma (sB j)) hsc) (.dma (rB j)) hsrc hdst hsem) k) Q) := by
  subst hn
  rw [amt_sB]
  unfold ow sbPts rbPts
  iintro ⟨#HR, ⟨%W, HO⟩, Hs, Hd, Ht1, Ht2⟩ Hk
  iapply (Rounds.wp_send_pointsTo 𝒱₀ ER (rd m ρ) (c : Thread nD τ) none (κ₁ := K (c, iSB j)) (κ₂ := K (fwd j c, iRB j))
    (src := sbS j) (fs := sbC m ρ c) (q := fullShare)
    (r₁ := 0) (r₂ := 0) (d₁ := 0) (d₂ := 0) (fd := f)
    (mem_duty m ρ (sB j) (ge_SB j) c) (mem_duty m ρ (rB j) (ge_RB j) (fwd j c))
    () () Nb rfl ((amount_dma m ρ c (sB j) 0).trans (amt_sB j)) ((amount_dma m ρ (fwd j c) (rB j) 0).trans (amt_rB j)) (tl l) (tl_cons _ _ _) (W := W)
    (by rw [payload_dma, pay_sB]; exact BI.Entails.refl _)
    (by
      rw [payload_dma, pay_rB]; unfold recvB rbPts
      rw [bwd_fwd]
      exact Entails.of_eq (pointsTo_congr (land_rb m ρ j c f)))) $$ [HO Hs Hd Ht1 Ht2]
  · isplitr; · iapply (inv_dma m ρ K c (iSB j) (sB j) (csem_SB j)); iexact HR
    isplitr; · iapply (inv_dma m ρ K (fwd j c) (iRB j) (rB j) (csem_RB j)); iexact HR
    isplitl [Hs]; · iexact Hs
    isplitl [Hd]; · iexact Hd
    isplitl [HO]; · iexact HO
    isplitl [Ht1]; · iexact Ht1
    isplitr; · iapply (reached_dma m ρ K c (iSB j) (sB j) (csem_SB j)); iexact HR
    isplitl [Ht2]; · iexact Ht2
    iapply (reached_dma m ρ K (fwd j c) (iRB j) (rB j) (csem_RB j)); iexact HR
  iintro ⟨Hc, HO⟩
  iapply Hk
  isplitl [HO]; · iexists W; iexact HO
  iexact Hc

theorem land_cs (f : S4x8x128.Idx → Elt F .i32) :
    ((csM : Memref sig .tc .smem S4x8x128 .i32).view.write (Elt F) f ((cgM : Memref sig .tc .vmem S4x8x128 .i32).view.read (Elt F) (cgC m ρ)) Finset.univ : S4x8x128.Idx → Elt F .i32) = cgC m ρ := by
  funext i
  exact View.write_emb_of_mem (v := (csM : Memref sig .tc .smem S4x8x128 .i32).view) (Val := Elt F) f ((cgM : Memref sig .tc .vmem S4x8x128 .i32).view.read (Elt F) (cgC m ρ)) (M := Finset.univ) (x := i) (Finset.mem_univ _)

theorem step_copy
    {hsrc : (cgM : Memref sig .tc .vmem S4x8x128 .i32).view.WordExact} {hdst : (csM : Memref sig .tc .smem S4x8x128 .i32).view.WordExact}
    {hsem : DmaTarget.Typed (nD := nD) (τ := τ) (p := .tc) .vmem (.dma cpS) (.here (csM : Memref sig .tc .smem S4x8x128 .i32))}
    {f : Buf (Elt F) ((csM).view.loc (c : Thread nD τ))}
    {α : Type} {k : PUnit → Prog (TpuEff nD τ sig (Elt F) Λ₀ .tc) α} {Q : α → sProp 𝕄} :
    iprop(records m ρ K ∗ cgAll c (cgC m ρ) ∗ csAll c f ∗ dutyTok ER (dC cpS c) 0 0)
      ⊢ iprop((cred (tallyAt (dC cpS c) () (amt cpS)) -∗ WP c (k ⟨⟩) Q)
          -∗ WP c (.op (.enqueueDma cgM (.here csM) (.dma cpS) hsrc hdst hsem) k) Q) := by
  rw [amt_cp]
  unfold cgAll csAll
  iintro ⟨#HR, Hs, Hd, Ht⟩ Hk
  iapply (Rounds.wp_copy_pointsTo 𝒱₀ ER (rd m ρ) (c : Thread nD τ) none (κ := K (c, iCP)) (r := 0) (d := 0) (fd := f)
    (mem_duty m ρ cpS (by decide) c) () Np rfl ((amount_dma m ρ c cpS 0).trans amt_cp)
    (by
      rw [payload_dma, pay_cp]; unfold cpPay csAll cgAll
      exact sep_mono_left (Entails.of_eq (congrArg (fun g : Buf (Elt F) ((csM).view.loc (c : Thread nD τ)) => (((csM).view.loc (c : Thread nD τ) ↦[(csM).view.set]{fullShare} g) : sProp 𝕄)) (land_cs m ρ f))))) $$ [Hs Hd Ht]
  · isplitr; · iapply (inv_dma m ρ K c iCP cpS csem_CP); iexact HR
    isplitl [Hs]; · iexact Hs
    isplitl [Hd]; · iexact Hd
    isplitl [Ht]; · iexact Ht
    iapply (reached_dma m ρ K c iCP cpS csem_CP); iexact HR
  iexact Hk

end Steps

end Cert.KernelIdealProof

end
-- ==== Proof.Body.lean ====
module
/-
# The body, part by part

The kernel's body is a chain of parts. Each is run here from what it needs to what it leaves, in the order of its
communications; the contents are the ones the protocol names.
-/
public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body computes -/

/-- The number of the device `j` places before the one numbered `v`, as the kernel computes it. -/
def srcW (v j : BitVec 32) : BitVec 32 :=
  let n : BitVec 32 := Scalar.select (Scalar.cmpi .eq 4#32 0#32) 1#32 4#32
  let r : BitVec 32 := Scalar.remsi (Scalar.subi v j) n
  Scalar.select (Scalar.andi (Scalar.xori (Scalar.cmpi .slt r 0#32) (Scalar.cmpi .slt n 0#32)) (Scalar.cmpi .ne r 0#32)) (Scalar.addi r n) r

/-- The count of source `w`: three of its four terms, and the fourth. -/
def selA (n0 n1 n2 w : BitVec 32) : BitVec 32 :=
  Scalar.addi (Scalar.addi (Scalar.addi (Scalar.muli n0 0#32) (Scalar.select (Scalar.cmpi .eq w 0#32) n0 0#32))
    (Scalar.select (Scalar.cmpi .eq w 1#32) n1 0#32)) (Scalar.select (Scalar.cmpi .eq w 2#32) n2 0#32)
def selB (n3 w : BitVec 32) : BitVec 32 := Scalar.select (Scalar.cmpi .eq w 3#32) n3 0#32
/-- The first two terms of the place where source `w`'s rows begin. -/
def selC (p1 w : BitVec 32) : BitVec 32 :=
  Scalar.addi (Scalar.addi (Scalar.muli 0#32 0#32) (Scalar.select (Scalar.cmpi .eq w 0#32) 0#32 0#32)) (Scalar.select (Scalar.cmpi .eq w 1#32) p1 0#32)

def iotaT : IVec S1024x1 32 := iota .tc S1024x1 32 [0] iota_S1024x1_d0_w32
def iotaL : IVec S1x288 32 := iota .tc S1x288 32 [1] iota_S1x288_d1_w32

/-- Which message row of source `w` goes to which row of the result. -/
def hotV (n0 n1 n2 n3 w : BitVec 32) : IVec S1024x288 32 :=
  k0_pay19 (F := F) n0 n1 n2 n3 (Scalar.addi 0#32 n0) (Scalar.addi (Scalar.addi 0#32 n0) n1) (Scalar.addi (Scalar.addi (Scalar.addi 0#32 n0) n1) n2) iotaT iotaL w
/-- The rows of one source, put in their places. -/
def termV (h : IVec S1024x288 32) (M : FVec F S288x512 .f32) : FVec F S1024x512 .f32 :=
  matmul dot_S1024x288_S288x512_S1024x512_1_0_0_1_n_n none (sitofp .f32 h) M (constant S1024x512 .f32 0x00000000#32)

/-- A device's message to itself. -/
def ownV (c : Dev nD) : FVec F S288x512 .f32 := k0_pay11 (mw c) (posV (F := F) (dstg m ρ c)) iotaP (dstg m ρ c) (xstg m ρ c)
def gotV (k : Fin 3) (c : Dev nD) : FVec F S288x512 .f32 := k0_pay14 (msgV k (bwd k c) (dstg m ρ (bwd k c)) (xstg m ρ (bwd k c)))
def hotAt (c : Dev nD) (w : BitVec 32) : IVec S1024x288 32 := hotV (F := F) (cntAt m ρ 0 c) (cntAt m ρ 1 c) (cntAt m ρ 2 c) (cntAt m ρ 3 c) w

/-- The kernel's result on device `c`. -/
def outAt (c : Dev nD) : FVec F S1024x512 .f32 :=
  addf (addf (addf (termV (hotAt m ρ c (mw c)) (ownV m ρ c)) (termV (hotAt m ρ c (srcW (mw c) 1#32)) (gotV m ρ 0 c)))
    (termV (hotAt m ρ c (srcW (mw c) 2#32)) (gotV m ρ 1 c))) (termV (hotAt m ρ c (srcW (mw c) 3#32)) (gotV m ρ 2 c))

/-! ## Loads and stores of whole buffers -/

theorem hz2 : (![0, 0] : Fin 2 → Nat) = fun _ => 0 := funext fun a => by fin_cases a <;> rfl

abbrev xPts (c : Dev nD) : sProp 𝕄 := ((c : Thread nD τ).loc cc0_stg0_0) ↦{fullShare} xstg m ρ c
abbrev dPts (c : Dev nD) : sProp 𝕄 := ((c : Thread nD τ).loc cc0_stg1_0) ↦{fullShare} dstg m ρ c
abbrev oPts (c : Dev nD) (f : Buf (Elt F) ((c : Thread nD τ).loc cc0_stg2_0)) : sProp 𝕄 := ((c : Thread nD τ).loc cc0_stg2_0) ↦{fullShare} f

omit [FloatOps F] in
theorem read_x (f : (cc0_stg0_0 : Ref sig .tc).ty.Contents (Elt F)) :
    (xM).view.readAt (Elt F) (Rect.unit (s := S1024x512) ![0, 0] S1024x512.size inb_S1024x512_S1024x512_0_0).toLoadRect f = f :=
  Memref.readAt_unit_zero (Elt F) cc0_stg0_0 hz2 _ f
omit [FloatOps F] in
theorem read_d (f : (cc0_stg1_0 : Ref sig .tc).ty.Contents (Elt F)) :
    (dM).view.readAt (Elt F) (Rect.unit (s := S1024x1) ![0, 0] S1024x1.size inb_S1024x1_S1024x1_0_0).toLoadRect f = f :=
  Memref.readAt_unit_zero (Elt F) cc0_stg1_0 hz2 _ f
omit [FloatOps F] in
theorem read_ct (f : (cc0_scratch1 : Ref sig .tc).ty.Contents (Elt F)) :
    (ctM).view.readAt (Elt F) (Rect.unit (s := S8x128) ![0, 0] S8x128.size inb_S8x128_S8x128_0_0).toLoadRect f = f :=
  Memref.readAt_unit_zero (Elt F) cc0_scratch1 hz2 _ f
omit [FloatOps F] in
theorem write_ct (f w : (cc0_scratch1 : Ref sig .tc).ty.Contents (Elt F)) :
    ((ctM).access (Rect.unit (s := S8x128) ![0, 0] S8x128.size inb_S8x128_S8x128_0_0)).write (Elt F) f w Finset.univ = w :=
  Memref.write_access_unit_zero_univ (Elt F) cc0_scratch1 hz2 _ f w
omit [FloatOps F] in
theorem write_o (f w : (cc0_stg2_0 : Ref sig .tc).ty.Contents (Elt F)) :
    ((oM).access (Rect.unit (s := S1024x512) ![0, 0] S1024x512.size inb_S1024x512_S1024x512_0_0)).write (Elt F) f w Finset.univ = w :=
  Memref.write_access_unit_zero_univ (Elt F) cc0_stg2_0 hz2 _ f w
theorem ct_set : (ctM).view.set = Finset.univ := View.set_whole _
theorem cg_set : (cgM).view.set = Finset.univ := View.set_whole _
theorem cs_set : (csM).view.set = Finset.univ := View.set_whole _

theorem load_rb_set (s : Dev nD) (off : Fin 3 → ℕ) (ho : off = ![s.val, 0, 0]) (inb : ∀ a, off a + S1x288x512.size a ≤ S4x288x512.size a) :
    (rbM).view.setOn (Rect.unit (s := S4x288x512) off S1x288x512.size inb).toLoadRect.set ⊆ rbI s :=
  (Finset.Subset.trans (le_of_eq (View.set_slice (rbM).view (Rect.unit (s := S4x288x512) off S1x288x512.size inb)).symm) (access_rb_set s off ho inb))

theorem wp_fin (c : Dev nD) {α : Type} {Kt : α → sProp 𝕄} (v : α) {a : α} : iprop(⌜a = v⌝ ∗ Kt v) ⊢ WP c (.ret a) Kt := by
  unfold WP
  rw [wp_ret]
  iintro ⟨%h, H⟩; imodintro; rw [h]; iexact H

/-- The number of the device one, two, three places on, as the kernel computes it. -/
def nextW (v j : BitVec 32) : BitVec 32 :=
  let n : BitVec 32 := Scalar.select (Scalar.cmpi .eq 4#32 0#32) 1#32 4#32
  let r : BitVec 32 := Scalar.remsi (Scalar.addi v j) n
  Scalar.select (Scalar.andi (Scalar.xori (Scalar.cmpi .slt r 0#32) (Scalar.cmpi .slt n 0#32)) (Scalar.cmpi .ne r 0#32)) (Scalar.addi r n) r

theorem cg_join (c : Dev nD) :
    iprop(cgPts c c (cgC m ρ) ∗ recvC m ρ 2 c ∗ recvC m ρ 1 c ∗ recvC m ρ 0 c) = cgAll c (cgC m ρ) := by
  unfold recvC cgAll
  rw [bwd0, bwd1, bwd2, cg_set]
  exact (cg_split c (cgC m ρ)).symm

section Parts
variable (K : Dev nD × Fin 14 → ℕ) (c : Dev nD)

abbrev sigPay (F : FTy → Type) [FloatOps F] (c : Dev nD) (j : Fin 3) : sProp (MT nD τ sig Unit (Elt F) ℕ UU ℕ) :=
  iprop(dutyTok ER (barC (fwd j c)) 0 j ∗ (∃ f, cgPts (F := F) c (fwd j c) f) ∗ (∃ f, rbPts (F := F) c (fwd j c) f))

theorem part1 {Kt : _ → sProp 𝕄} :
    iprop(records m ρ K ∗ ow c (debt c) ∗ sigPay F c 0 ∗ sigPay F c 1)
      ⊢ iprop((iprop(ow c ((barC (fwd 2 c), 1) :: debtC c)) -∗ Kt ⟨c, mw c, SemArray.scalar (sig.barrier 0 rfl), Scalar.addi (mw c) 3#32, 4#32, Scalar.cmpi .eq 4#32 0#32⟩) -∗ WP c (k0_part1 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 ) Kt) := by
  rw [k0_part1_eq_skeleton]; unfold k0_part1_skel
  simp only [semSignalWord, semWaitWord, smemLoad, smemLoadElt, Prog.lift, Prog.bind_op, Prog.bind_ret, Prog.pure_eq_ret, wp_deviceId]
  iintro ⟨#HR, HO, ⟨Ht0, Hc0, Hb0⟩, ⟨Ht1, Hc1, Hb1⟩⟩ Hk
  iapply (step_signal m ρ K c 0 _ (dev1_eq c) ((barC (fwd 1 c), 1) :: (barC (fwd 2 c), 1) :: debtC c) (by decide)) $$ [HO Ht0 Hc0 Hb0]
  · isplitr; · iexact HR
    isplitl [HO]; · iexact HO
    isplitl [Ht0]; · iexact Ht0
    isplitl [Hc0] <;> iassumption
  iintro HO
  iapply (step_signal m ρ K c 1 _ (dev2_eq c) ((barC (fwd 2 c), 1) :: debtC c) (by decide)) $$ [HO Ht1 Hc1 Hb1]
  · isplitr; · iexact HR
    isplitl [HO]; · iexact HO
    isplitl [Ht1]; · iexact Ht1
    isplitl [Hc1] <;> iassumption
  iintro HO
  iapply (wp_fin c ⟨c, mw c, SemArray.scalar (sig.barrier 0 rfl), Scalar.addi (mw c) 3#32, 4#32, Scalar.cmpi .eq 4#32 0#32⟩)
  isplitr; · ipureintro; rfl
  iapply Hk; iexact HO

theorem part2 (v30 c4 : BitVec 32) (v31 : BitVec 1) {Kt : _ → sProp 𝕄} :
    iprop(records m ρ K ∗ levAts L lv ∗ ow c ((barC (fwd 2 c), 1) :: debtC c) ∗ sigPay F c 2 ∗ cred (tallyAt (barC c) () 3) ∗ atPos ER (barC c) 0 ∅ 0 ∗ dPts m ρ c)
      ⊢ iprop((iprop(ow c (debtC c) ∗ semVal (barC c) 0 ∗ barPay 0 c ∗ barPay 1 c ∗ barPay 2 c ∗ dPts m ρ c) -∗ Kt ⟨k0_pay1 (F := F) (dstg m ρ c), k0_pay2 (F := F) (dstg m ρ c)⟩) -∗ WP c (k0_part2 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (SemArray.scalar (sig.barrier 0 rfl)) v30 c4 v31) Kt) := by
  rw [k0_part2_eq_skeleton]; unfold k0_part2_skel
  simp only [semSignalWord, semWaitWord, smemLoad, smemLoadElt, Prog.lift, Prog.bind_op, Prog.bind_ret, Prog.pure_eq_ret, wp_deviceId]
  iintro ⟨#HR, #Hlev, HO, ⟨Ht0, Hc0, Hb0⟩, Hcr, Hat, Hd⟩ Hk
  iapply (step_signal m ρ K c 2 _ (dev3_eq c) (debtC c) (by decide)) $$ [HO Ht0 Hc0 Hb0]
  · isplitr; · iexact HR
    isplitl [HO]; · iexact HO
    isplitl [Ht0]; · iexact Ht0
    isplitl [Hc0] <;> iassumption
  iintro HO
  iapply (step_barrier m ρ K c (debtC c) (debtC_cells c) (by decide)) $$ [HO Hcr Hat]
  · isplitr; · iexact HR
    isplitr; · iexact Hlev
    isplitl [HO]; · iexact HO
    isplitl [Hcr] <;> iassumption
  iintro ⟨HO, Hz, Hp0, Hp1, Hp2⟩
  iapply (wp_load 𝒱₀ (c : Thread nD τ) none Set.univ (m := dM) (Finset.subset_univ _)) $$ Hd; iintro Hd
  rw [read_d]
  iapply (wp_fin c ⟨k0_pay1 (F := F) (dstg m ρ c), k0_pay2 (F := F) (dstg m ρ c)⟩)
  isplitr; · ipureintro; rfl
  iapply Hk
  isplitl [HO]; · iexact HO
  isplitl [Hz]; · iexact Hz
  isplitl [Hp0]; · iexact Hp0
  isplitl [Hp1]; · iexact Hp1
  isplitl [Hp2] <;> iassumption

theorem part3 (v2 : BitVec 32) (f : Buf (Elt F) ((ctM).view.loc (c : Thread nD τ))) {Kt : _ → sProp 𝕄} :
    iprop(ctPts c fullShare f)
      ⊢ iprop((iprop(ctPts c fullShare (cntV (F := F) (dstg m ρ c))) -∗ Kt ⟨posV (F := F) (dstg m ρ c), nextW v2 1#32⟩) -∗ WP c (k0_part3 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 v2 (k0_pay1 (F := F) (dstg m ρ c)) (k0_pay2 (F := F) (dstg m ρ c))) Kt) := by
  rw [k0_part3_eq_skeleton]; unfold k0_part3_skel
  simp only [semSignalWord, semWaitWord, smemLoad, smemLoadElt, Prog.lift, Prog.bind_op, Prog.bind_ret, Prog.pure_eq_ret, wp_deviceId]
  unfold ctPts
  iintro Hc Hk
  iapply (wp_load 𝒱₀ (c : Thread nD τ) none Set.univ (m := ctM) (by rw [ct_set]; exact Finset.subset_univ _)) $$ Hc; iintro Hc
  iapply (wp_store 𝒱₀ (c : Thread nD τ) none Set.univ (m := ctM) (r := Rect.unit (s := S8x128) ![0, 0] S8x128.size inb_S8x128_S8x128_0_0) (Mk := Finset.univ) (by rw [ct_set]; exact Finset.subset_univ _)) $$ Hc; iintro Hc
  rw [write_ct]
  iapply (wp_fin c ⟨posV (F := F) (dstg m ρ c), nextW v2 1#32⟩)
  isplitr; · ipureintro; rfl
  iapply Hk; iexact Hc

theorem part4 (v2 : BitVec 32) (f0 : Buf (Elt F) ((cgS c).view.loc (fwd 0 c : Thread nD τ))) (f1 : Buf (Elt F) ((cgS c).view.loc (fwd 1 c : Thread nD τ))) {Kt : _ → sProp 𝕄} :
    iprop(records m ρ K ∗ ow c (debtC c) ∗ (ctPts c (qsh 0) (cntV (F := F) (dstg m ρ c)) ∗ cgPts (fwd 0 c) c f0 ∗ dutyTok ER (dC (sC 0) c) 0 0 ∗ dutyTok ER (dC (rC 0) (fwd 0 c)) 0 0) ∗ (ctPts c (qsh 1) (cntV (F := F) (dstg m ρ c)) ∗ cgPts (fwd 1 c) c f1 ∗ dutyTok ER (dC (sC 1) c) 0 0 ∗ dutyTok ER (dC (rC 1) (fwd 1 c)) 0 0))
      ⊢ iprop((iprop(ow c ((dC (rC 2) (fwd 2 c), Nc) :: debtB c) ∗ cred (tallyAt (dC (sC 0) c) () (amt (sC 0))) ∗ cred (tallyAt (dC (sC 1) c) () (amt (sC 1)))) -∗ Kt ⟨nextW v2 2#32, nextW v2 3#32⟩) -∗ WP c (k0_part4 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c v2) Kt) := by
  rw [k0_part4_eq_skeleton]; unfold k0_part4_skel
  simp only [semSignalWord, semWaitWord, smemLoad, smemLoadElt, Prog.lift, Prog.bind_op, Prog.bind_ret, Prog.pure_eq_ret, wp_deviceId]
  iintro ⟨#HR, HO, ⟨Hs0, Hd0, Ha0, Hb0⟩, ⟨Hs1, Hd1, Ha1, Hb1⟩⟩ Hk
  iapply (step_sendC m ρ K c 0 _ (dev4_eq c) ((dC (rC 1) (fwd 1 c), Nc) :: (dC (rC 2) (fwd 2 c), Nc) :: debtB c) (f := f0)) $$ [HO Hs0 Hd0 Ha0 Hb0]
  · isplitr; · iexact HR
    isplitl [HO]; · iexact HO
    isplitl [Hs0]; · iexact Hs0
    isplitl [Hd0]; · iexact Hd0
    isplitl [Ha0] <;> iassumption
  iintro ⟨HO, Hcr0⟩
  iapply (step_sendC m ρ K c 1 _ (dev5_eq c) ((dC (rC 2) (fwd 2 c), Nc) :: debtB c) (f := f1)) $$ [HO Hs1 Hd1 Ha1 Hb1]
  · isplitr; · iexact HR
    isplitl [HO]; · iexact HO
    isplitl [Hs1]; · iexact Hs1
    isplitl [Hd1]; · iexact Hd1
    isplitl [Ha1] <;> iassumption
  iintro ⟨HO, Hcr1⟩
  iapply (wp_fin c ⟨nextW v2 2#32, nextW v2 3#32⟩)
  isplitr; · ipureintro; rfl
  iapply Hk
  isplitl [HO]; · iexact HO
  isplitl [Hcr0] <;> iassumption

theorem part5 (v146 : BitVec 32) (f2 : Buf (Elt F) ((cgS c).view.loc (fwd 2 c : Thread nD τ))) (h0 : Buf (Elt F) ((sbM).view.loc (c : Thread nD τ))) {Kt : _ → sProp 𝕄} :
    iprop(records m ρ K ∗ ow c ((dC (rC 2) (fwd 2 c), Nc) :: debtB c) ∗ (ctPts c (qsh 2) (cntV (F := F) (dstg m ρ c)) ∗ cgPts (fwd 2 c) c f2 ∗ dutyTok ER (dC (sC 2) c) 0 0 ∗ dutyTok ER (dC (rC 2) (fwd 2 c)) 0 0) ∗ dPts m ρ c ∗ xPts m ρ c ∗ sbPts c 0 h0)
      ⊢ iprop((iprop(ow c (debtB c) ∗ cred (tallyAt (dC (sC 2) c) () (amt (sC 2))) ∗ dPts m ρ c ∗ xPts m ρ c ∗ sbPts c 0 (sbC m ρ c)) -∗ Kt ⟨iotaP, nextW (mw c) 1#32⟩) -∗ WP c (k0_part5 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (mw c) (posV (F := F) (dstg m ρ c)) v146) Kt) := by
  rw [k0_part5_eq_skeleton]; unfold k0_part5_skel
  simp only [semSignalWord, semWaitWord, smemLoad, smemLoadElt, Prog.lift, Prog.bind_op, Prog.bind_ret, Prog.pure_eq_ret, wp_deviceId]
  unfold sbPts
  iintro ⟨#HR, HO, ⟨Hs2, Hd2, Ha2, Hb2⟩, Hd, Hx, Hm⟩ Hk
  iapply (step_sendC m ρ K c 2 _ (dev6_eq c) (debtB c) (f := f2)) $$ [HO Hs2 Hd2 Ha2 Hb2]
  · isplitr; · iexact HR
    isplitl [HO]; · iexact HO
    isplitl [Hs2]; · iexact Hs2
    isplitl [Hd2]; · iexact Hd2
    isplitl [Ha2] <;> iassumption
  iintro ⟨HO, Hcr2⟩
  iapply (wp_load 𝒱₀ (c : Thread nD τ) none Set.univ (m := dM) (Finset.subset_univ _)) $$ Hd; iintro Hd
  iapply (wp_load 𝒱₀ (c : Thread nD τ) none Set.univ (m := xM) (Finset.subset_univ _)) $$ Hx; iintro Hx
  iapply (wp_load_rect 𝒱₀ (c : Thread nD τ) none Set.univ (m := sbM) (r := Rect.unit (s := S3x288x512) ![0, 0, 0] S1x288x512.size inb_S3x288x512_S1x288x512_0_0_0) (S := sbI 0) (access_sb_set 0 ![0, 0, 0] rfl inb_S3x288x512_S1x288x512_0_0_0)) $$ Hm; iintro Hm
  rw [read_d, read_x]
  iapply (wp_store 𝒱₀ (c : Thread nD τ) none Set.univ (m := sbM) (r := Rect.unit (s := S3x288x512) ![0, 0, 0] S1x288x512.size inb_S3x288x512_S1x288x512_0_0_0) (Mk := Finset.univ) (S := sbI 0) (access_sb_set 0 ![0, 0, 0] rfl inb_S3x288x512_S1x288x512_0_0_0)) $$ Hm; iintro Hm
  ihave Hm := (Entails.of_eq (pointsTo_congr (store_sb m ρ 0 c ![0, 0, 0] rfl inb_S3x288x512_S1x288x512_0_0_0 h0))) $$ Hm
  iapply (wp_fin c ⟨iotaP, nextW (mw c) 1#32⟩)
  isplitr; · ipureintro; rfl
  iapply Hk
  isplitl [HO]; · iexact HO
  isplitl [Hcr2]; · iexact Hcr2
  isplitl [Hd]; · iexact Hd
  isplitl [Hx] <;> iassumption

theorem part6 (v166 : BitVec 32) (g0 : Buf (Elt F) ((rbS c).view.loc (fwd 0 c : Thread nD τ))) (h1 : Buf (Elt F) ((sbM).view.loc (c : Thread nD τ))) {Kt : _ → sProp 𝕄} :
    iprop(records m ρ K ∗ ow c (debtB c) ∗ sbPts c 0 (sbC m ρ c) ∗ (rbPts (fwd 0 c) c g0 ∗ dutyTok ER (dC (sB 0) c) 0 0 ∗ dutyTok ER (dC (rB 0) (fwd 0 c)) 0 0) ∗ dPts m ρ c ∗ xPts m ρ c ∗ sbPts c 1 h1)
      ⊢ iprop((iprop(ow c ((dC (rB 1) (fwd 1 c), Nb) :: [(dC (rB 2) (fwd 2 c), Nb)]) ∗ cred (tallyAt (dC (sB 0) c) () (amt (sB 0))) ∗ dPts m ρ c ∗ xPts m ρ c ∗ sbPts c 1 h1) -∗ Kt ⟨nextW (mw c) 2#32, k0_pay7 (mw c) (posV (F := F) (dstg m ρ c)) iotaP (dstg m ρ c) (xstg m ρ c)⟩) -∗ WP c (k0_part6 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (mw c) (posV (F := F) (dstg m ρ c)) iotaP v166) Kt) := by
  rw [k0_part6_eq_skeleton]; unfold k0_part6_skel
  simp only [semSignalWord, semWaitWord, smemLoad, smemLoadElt, Prog.lift, Prog.bind_op, Prog.bind_ret, Prog.pure_eq_ret, wp_deviceId]
  iintro ⟨#HR, HO, Hm, ⟨Hd0, Ha0, Hb0⟩, Hd, Hx, Hm1⟩ Hk
  iapply (step_sendB m ρ K c 0 _ (dev7_eq c) ((dC (rB 1) (fwd 1 c), Nb) :: [(dC (rB 2) (fwd 2 c), Nb)]) (f := g0)) $$ [HO Hm Hd0 Ha0 Hb0]
  · isplitr; · iexact HR
    isplitl [HO]; · iexact HO
    isplitl [Hm]; · unfold sbPts; iexact Hm
    isplitl [Hd0]; · iexact Hd0
    isplitl [Ha0] <;> iassumption
  iintro ⟨HO, Hcr0⟩
  unfold sbPts
  iapply (wp_load 𝒱₀ (c : Thread nD τ) none Set.univ (m := dM) (Finset.subset_univ _)) $$ Hd; iintro Hd
  iapply (wp_load 𝒱₀ (c : Thread nD τ) none Set.univ (m := xM) (Finset.subset_univ _)) $$ Hx; iintro Hx
  iapply (wp_load_rect 𝒱₀ (c : Thread nD τ) none Set.univ (m := sbM) (r := Rect.unit (s := S3x288x512) ![1, 0, 0] S1x288x512.size inb_S3x288x512_S1x288x512_1_0_0) (S := sbI 1) (access_sb_set 1 ![1, 0, 0] rfl inb_S3x288x512_S1x288x512_1_0_0)) $$ Hm1; iintro Hm1
  rw [read_d, read_x]
  iapply (wp_fin c ⟨nextW (mw c) 2#32, k0_pay7 (mw c) (posV (F := F) (dstg m ρ c)) iotaP (dstg m ρ c) (xstg m ρ c)⟩)
  isplitr; · ipureintro; rfl
  iapply Hk
  isplitl [HO]; · iexact HO
  isplitl [Hcr0]; · iexact Hcr0
  isplitl [Hd]; · iexact Hd
  isplitl [Hx] <;> iassumption

theorem part7 (v204 : BitVec 32) (g1 : Buf (Elt F) ((rbS c).view.loc (fwd 1 c : Thread nD τ))) (h1 : Buf (Elt F) ((sbM).view.loc (c : Thread nD τ))) {Kt : _ → sProp 𝕄} :
    iprop(records m ρ K ∗ ow c ((dC (rB 1) (fwd 1 c), Nb) :: [(dC (rB 2) (fwd 2 c), Nb)]) ∗ (rbPts (fwd 1 c) c g1 ∗ dutyTok ER (dC (sB 1) c) 0 0 ∗ dutyTok ER (dC (rB 1) (fwd 1 c)) 0 0) ∗ dPts m ρ c ∗ xPts m ρ c ∗ sbPts c 1 h1)
      ⊢ iprop((iprop(ow c ([(dC (rB 2) (fwd 2 c), Nb)]) ∗ cred (tallyAt (dC (sB 1) c) () (amt (sB 1))) ∗ dPts m ρ c ∗ xPts m ρ c) -∗ Kt ⟨nextW (mw c) 3#32, k0_pay9 (mw c) (posV (F := F) (dstg m ρ c)) iotaP (dstg m ρ c) (xstg m ρ c)⟩) -∗ WP c (k0_part7 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (mw c) (posV (F := F) (dstg m ρ c)) iotaP v204 (k0_pay7 (mw c) (posV (F := F) (dstg m ρ c)) iotaP (dstg m ρ c) (xstg m ρ c))) Kt) := by
  rw [k0_part7_eq_skeleton]; unfold k0_part7_skel
  simp only [semSignalWord, semWaitWord, smemLoad, smemLoadElt, Prog.lift, Prog.bind_op, Prog.bind_ret, Prog.pure_eq_ret, wp_deviceId]
  iintro ⟨#HR, HO, ⟨Hd1, Ha1, Hb1⟩, Hd, Hx, Hm⟩ Hk
  unfold sbPts
  iapply (wp_store 𝒱₀ (c : Thread nD τ) none Set.univ (m := sbM) (r := Rect.unit (s := S3x288x512) ![1, 0, 0] S1x288x512.size inb_S3x288x512_S1x288x512_1_0_0) (Mk := Finset.univ) (S := sbI 1) (access_sb_set 1 ![1, 0, 0] rfl inb_S3x288x512_S1x288x512_1_0_0)) $$ Hm; iintro Hm
  ihave Hm := (Entails.of_eq (pointsTo_congr (store_sb m ρ 1 c ![1, 0, 0] rfl inb_S3x288x512_S1x288x512_1_0_0 h1))) $$ Hm
  iapply (step_sendB m ρ K c 1 _ (dev8_eq c) ([(dC (rB 2) (fwd 2 c), Nb)]) (f := g1)) $$ [HO Hm Hd1 Ha1 Hb1]
  · isplitr; · iexact HR
    isplitl [HO]; · iexact HO
    isplitl [Hm]; · unfold sbPts; iexact Hm
    isplitl [Hd1]; · iexact Hd1
    isplitl [Ha1] <;> iassumption
  iintro ⟨HO, Hcr1⟩
  iapply (wp_load 𝒱₀ (c : Thread nD τ) none Set.univ (m := dM) (Finset.subset_univ _)) $$ Hd; iintro Hd
  iapply (wp_load 𝒱₀ (c : Thread nD τ) none Set.univ (m := xM) (Finset.subset_univ _)) $$ Hx; iintro Hx
  rw [read_d, read_x]
  iapply (wp_fin c ⟨nextW (mw c) 3#32, k0_pay9 (mw c) (posV (F := F) (dstg m ρ c)) iotaP (dstg m ρ c) (xstg m ρ c)⟩)
  isplitr; · ipureintro; rfl
  iapply Hk
  isplitl [HO]; · iexact HO
  isplitl [Hcr1]; · iexact Hcr1
  isplitl [Hd] <;> iassumption

theorem part8 (v108 v242 : BitVec 32) (g2 : Buf (Elt F) ((rbS c).view.loc (fwd 2 c : Thread nD τ))) (h2 : Buf (Elt F) ((sbM).view.loc (c : Thread nD τ))) {Kt : _ → sProp 𝕄} :
    iprop(records m ρ K ∗ ow c ([(dC (rB 2) (fwd 2 c), Nb)]) ∗ (rbPts (fwd 2 c) c g2 ∗ dutyTok ER (dC (sB 2) c) 0 0 ∗ dutyTok ER (dC (rB 2) (fwd 2 c)) 0 0) ∗ dPts m ρ c ∗ xPts m ρ c ∗ sbPts c 2 h2 ∗ (cred (tallyAt (dC (rC 0) c) () (amt (rC 0))) ∗ atPos ER (dC (rC 0) c) 0 ∅ 0))
      ⊢ iprop((iprop(ow c [] ∗ cred (tallyAt (dC (sB 2) c) () (amt (sB 2))) ∗ dPts m ρ c ∗ xPts m ρ c ∗ (semVal (dC (rC 0) c) 0 ∗ recvC m ρ 0 c)) -∗ Kt ⟨ownV m ρ c, 1#32⟩) -∗ WP c (k0_part8 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (mw c) (posV (F := F) (dstg m ρ c)) v108 iotaP v242 (k0_pay9 (mw c) (posV (F := F) (dstg m ρ c)) iotaP (dstg m ρ c) (xstg m ρ c))) Kt) := by
  rw [k0_part8_eq_skeleton]; unfold k0_part8_skel
  simp only [semSignalWord, semWaitWord, smemLoad, smemLoadElt, Prog.lift, Prog.bind_op, Prog.bind_ret, Prog.pure_eq_ret, wp_deviceId]
  iintro ⟨#HR, HO, ⟨Hd2, Ha2, Hb2⟩, Hd, Hx, Hm, ⟨Hcr, Hat⟩⟩ Hk
  unfold sbPts
  iapply (wp_load_rect 𝒱₀ (c : Thread nD τ) none Set.univ (m := sbM) (r := Rect.unit (s := S3x288x512) ![2, 0, 0] S1x288x512.size inb_S3x288x512_S1x288x512_2_0_0) (S := sbI 2) (access_sb_set 2 ![2, 0, 0] rfl inb_S3x288x512_S1x288x512_2_0_0)) $$ Hm; iintro Hm
  iapply (wp_store 𝒱₀ (c : Thread nD τ) none Set.univ (m := sbM) (r := Rect.unit (s := S3x288x512) ![2, 0, 0] S1x288x512.size inb_S3x288x512_S1x288x512_2_0_0) (Mk := Finset.univ) (S := sbI 2) (access_sb_set 2 ![2, 0, 0] rfl inb_S3x288x512_S1x288x512_2_0_0)) $$ Hm; iintro Hm
  ihave Hm := (Entails.of_eq (pointsTo_congr (store_sb m ρ 2 c ![2, 0, 0] rfl inb_S3x288x512_S1x288x512_2_0_0 h2))) $$ Hm
  iapply (step_sendB m ρ K c 2 _ (dev9_eq c) ([]) (f := g2)) $$ [HO Hm Hd2 Ha2 Hb2]
  · isplitr; · iexact HR
    isplitl [HO]; · iexact HO
    isplitl [Hm]; · unfold sbPts; iexact Hm
    isplitl [Hd2]; · iexact Hd2
    isplitl [Ha2] <;> iassumption
  iintro ⟨HO, Hcr2⟩
  iapply (wp_load 𝒱₀ (c : Thread nD τ) none Set.univ (m := dM) (Finset.subset_univ _)) $$ Hd; iintro Hd
  iapply (wp_load 𝒱₀ (c : Thread nD τ) none Set.univ (m := xM) (Finset.subset_univ _)) $$ Hx; iintro Hx
  rw [read_d, read_x]
  iapply (step_wait m ρ K c (rC 0) (iRC 0) (csem_RC 0) (ge_RC 0) (dst := (cgS c)) ((amt_rC 0).symm)) $$ [HO Hcr Hat]
  · isplitr; · iexact HR
    isplitl [HO]; · iexact HO
    isplitl [Hcr] <;> iassumption
  iintro ⟨HO, Hz, Hp⟩
  ihave Hp := (Entails.of_eq (pay_rC m ρ c 0)) $$ Hp
  iapply (wp_fin c ⟨ownV m ρ c, 1#32⟩)
  isplitr; · ipureintro; rfl
  iapply Hk
  isplitl [HO]; · iexact HO
  isplitl [Hcr2]; · iexact Hcr2
  isplitl [Hd]; · iexact Hd
  isplitl [Hx]; · iexact Hx
  isplitl [Hz] <;> iassumption

theorem part9 (v127 v146 c1 : BitVec 32) (f : Buf (Elt F) ((cgS c).view.loc (c : Thread nD τ))) (g : Buf (Elt F) ((csM).view.loc (c : Thread nD τ))) {Kt : _ → sProp 𝕄} :
    iprop(records m ρ K ∗ ow c [] ∗ (cred (tallyAt (dC (rC 1) c) () (amt (rC 1))) ∗ atPos ER (dC (rC 1) c) 0 ∅ 0) ∗ (cred (tallyAt (dC (rC 2) c) () (amt (rC 2))) ∗ atPos ER (dC (rC 2) c) 0 ∅ 0) ∗ ctPts c qkeep (cntV (F := F) (dstg m ρ c)) ∗ cgPts c c f ∗ recvC m ρ 0 c ∗ csAll c g ∗ dutyTok ER (dC cpS c) 0 0 ∗ atPos ER (dC cpS c) 0 ∅ 0)
      ⊢ iprop((iprop(ow c [] ∗ semVal (dC (rC 1) c) 0 ∗ semVal (dC (rC 2) c) 0 ∗ semVal (dC cpS c) 0 ∗ ctPts c qkeep (cntV (F := F) (dstg m ρ c)) ∗ cpPay m ρ c) -∗ Kt ⟨(cntAt m ρ 0 c), (cntAt m ρ 1 c), (cntAt m ρ 2 c), (cntAt m ρ 3 c), (Scalar.addi 0#32 (cntAt m ρ 0 c)), (Scalar.addi (Scalar.addi 0#32 (cntAt m ρ 0 c)) (cntAt m ρ 1 c)), (Scalar.addi (Scalar.addi (Scalar.addi 0#32 (cntAt m ρ 0 c)) (cntAt m ρ 1 c)) (cntAt m ρ 2 c)), iotaT, iotaL, Scalar.muli (cntAt m ρ 0 c) 0#32⟩) -∗ WP c (k0_part9 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (mw c) v127 v146 c1) Kt) := by
  rw [k0_part9_eq_skeleton]; unfold k0_part9_skel
  simp only [semSignalWord, semWaitWord, smemLoad, smemLoadElt, Prog.lift, Prog.bind_op, Prog.bind_ret, Prog.pure_eq_ret, wp_deviceId]
  iintro ⟨#HR, HO, ⟨Hcr1, Hat1⟩, ⟨Hcr2, Hat2⟩, Hct, Hcg, Hr0, Hcs, Ht, Hat⟩ Hk
  iapply (step_wait m ρ K c (rC 1) (iRC 1) (csem_RC 1) (ge_RC 1) (dst := (cgS c)) ((amt_rC 1).symm)) $$ [HO Hcr1 Hat1]
  · isplitr; · iexact HR
    isplitl [HO]; · iexact HO
    isplitl [Hcr1] <;> iassumption
  iintro ⟨HO, Hz1, Hr1⟩
  ihave Hr1 := (Entails.of_eq (pay_rC m ρ c 1)) $$ Hr1
  iapply (step_wait m ρ K c (rC 2) (iRC 2) (csem_RC 2) (ge_RC 2) (dst := (cgS c)) ((amt_rC 2).symm)) $$ [HO Hcr2 Hat2]
  · isplitr; · iexact HR
    isplitl [HO]; · iexact HO
    isplitl [Hcr2] <;> iassumption
  iintro ⟨HO, Hz2, Hr2⟩
  ihave Hr2 := (Entails.of_eq (pay_rC m ρ c 2)) $$ Hr2
  unfold ctPts cgPts
  iapply (wp_load 𝒱₀ (c : Thread nD τ) none Set.univ (m := ctM) (by rw [ct_set]; exact Finset.subset_univ _)) $$ Hct; iintro Hct
  rw [read_ct]
  iapply (wp_load_rect 𝒱₀ (c : Thread nD τ) none Set.univ (m := cgM) (r := Rect.unit (s := S4x8x128) (k0_off3 c) S1x8x128.size (k0_off3_inb c)) (S := cgI c) (access_cg_set c)) $$ Hcg; iintro Hcg
  iapply (wp_store 𝒱₀ (c : Thread nD τ) none Set.univ (m := cgM) (r := Rect.unit (s := S4x8x128) (k0_off3 c) S1x8x128.size (k0_off3_inb c)) (Mk := Finset.univ) (S := cgI c) (access_cg_set c)) $$ Hcg; iintro Hcg
  ihave Hcg := (Entails.of_eq (pointsTo_congr (store_cg m ρ c f))) $$ Hcg
  ihave Hall := (Entails.of_eq (cg_join m ρ c)) $$ [Hcg Hr0 Hr1 Hr2]
  · unfold cgPts
    isplitl [Hcg]; · iexact Hcg
    isplitl [Hr2]; · iexact Hr2
    isplitl [Hr1]; · iexact Hr1
    iexact Hr0
  iapply (step_copy m ρ K c (f := g)) $$ [Hall Hcs Ht]
  · isplitr; · iexact HR
    isplitl [Hall]; · iexact Hall
    isplitl [Hcs] <;> iassumption
  iintro Hcr
  iapply (step_wait m ρ K c cpS iCP csem_CP (by decide) (dst := csM) (rfl)) $$ [HO Hcr Hat]
  · isplitr; · iexact HR
    isplitl [HO]; · iexact HO
    isplitl [Hcr] <;> iassumption
  iintro ⟨HO, Hz, Hp⟩
  ihave Hp := (Entails.of_eq (pay_cp m ρ c)) $$ Hp
  unfold cpPay csAll
  icases Hp with ⟨Hcs, Hcg⟩
  iapply (wp_load_rect 𝒱₀ (c : Thread nD τ) none Set.univ (m := csM) (r := Rect.unit (s := S4x8x128) (k0_off4 c) S1x1x1.size (k0_off4_inb c)) (by rw [cs_set]; exact Finset.subset_univ _)) $$ Hcs; iintro Hcs
  rw [read_cs m ρ 0 c (k0_off4 c) (off4_eq c) (k0_off4_inb c)]
  iapply (wp_load_rect 𝒱₀ (c : Thread nD τ) none Set.univ (m := csM) (r := Rect.unit (s := S4x8x128) (k0_off5 c) S1x1x1.size (k0_off5_inb c)) (by rw [cs_set]; exact Finset.subset_univ _)) $$ Hcs; iintro Hcs
  rw [read_cs m ρ 1 c (k0_off5 c) (off5_eq c) (k0_off5_inb c)]
  iapply (wp_load_rect 𝒱₀ (c : Thread nD τ) none Set.univ (m := csM) (r := Rect.unit (s := S4x8x128) (k0_off6 c) S1x1x1.size (k0_off6_inb c)) (by rw [cs_set]; exact Finset.subset_univ _)) $$ Hcs; iintro Hcs
  rw [read_cs m ρ 2 c (k0_off6 c) (off6_eq c) (k0_off6_inb c)]
  iapply (wp_load_rect 𝒱₀ (c : Thread nD τ) none Set.univ (m := csM) (r := Rect.unit (s := S4x8x128) (k0_off7 c) S1x1x1.size (k0_off7_inb c)) (by rw [cs_set]; exact Finset.subset_univ _)) $$ Hcs; iintro Hcs
  rw [read_cs m ρ 3 c (k0_off7 c) (off7_eq c) (k0_off7_inb c)]
  iapply (wp_fin c ⟨(cntAt m ρ 0 c), (cntAt m ρ 1 c), (cntAt m ρ 2 c), (cntAt m ρ 3 c), (Scalar.addi 0#32 (cntAt m ρ 0 c)), (Scalar.addi (Scalar.addi 0#32 (cntAt m ρ 0 c)) (cntAt m ρ 1 c)), (Scalar.addi (Scalar.addi (Scalar.addi 0#32 (cntAt m ρ 0 c)) (cntAt m ρ 1 c)) (cntAt m ρ 2 c)), iotaT, iotaL, Scalar.muli (cntAt m ρ 0 c) 0#32⟩)
  isplitr; · ipureintro; rfl
  iapply Hk
  isplitl [HO]; · iexact HO
  isplitl [Hz1]; · iexact Hz1
  isplitl [Hz2]; · iexact Hz2
  isplitl [Hz]; · iexact Hz
  isplitl [Hct]; · iexact Hct
  isplitl [Hcs] <;> iassumption

theorem part10 {Kt : _ → sProp 𝕄} :
    iprop(Kt (termV (hotAt m ρ c (mw c)) (ownV m ρ c)))
      ⊢ WP c (k0_part10 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 (mw c) (ownV m ρ c) (cntAt m ρ 0 c) (cntAt m ρ 1 c) (cntAt m ρ 2 c) (cntAt m ρ 3 c) (Scalar.addi 0#32 (cntAt m ρ 0 c)) (Scalar.addi (Scalar.addi 0#32 (cntAt m ρ 0 c)) (cntAt m ρ 1 c)) (Scalar.addi (Scalar.addi (Scalar.addi 0#32 (cntAt m ρ 0 c)) (cntAt m ρ 1 c)) (cntAt m ρ 2 c)) iotaT iotaL (Scalar.muli (cntAt m ρ 0 c) 0#32)) Kt := by
  rw [k0_part10_eq_skeleton]; unfold k0_part10_skel
  simp only [semSignalWord, semWaitWord, smemLoad, smemLoadElt, Prog.lift, Prog.bind_op, Prog.bind_ret, Prog.pure_eq_ret, wp_deviceId]
  iintro H
  iapply (wp_fin c (termV (hotAt m ρ c (mw c)) (ownV m ρ c)))
  isplitr; · ipureintro; rfl
  iexact H

theorem part11 (v166 : BitVec 32) (n0 n1 n2 n3 : BitVec 32) {Kt : _ → sProp 𝕄} :
    iprop(records m ρ K ∗ ow c [] ∗ (cred (tallyAt (dC (rB 0) c) () (amt (rB 0))) ∗ atPos ER (dC (rB 0) c) 0 ∅ 0))
      ⊢ iprop((iprop(ow c [] ∗ (semVal (dC (rB 0) c) 0 ∗ recvB m ρ 0 c)) -∗ Kt ⟨(srcW (mw c) 1#32), gotV m ρ 0 c, selA n0 n1 n2 (srcW (mw c) 1#32), selB n3 (srcW (mw c) 1#32)⟩) -∗ WP c (k0_part11 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (mw c) v166 n0 n1 n2 n3) Kt) := by
  rw [k0_part11_eq_skeleton]; unfold k0_part11_skel
  simp only [semSignalWord, semWaitWord, smemLoad, smemLoadElt, Prog.lift, Prog.bind_op, Prog.bind_ret, Prog.pure_eq_ret, wp_deviceId]
  iintro ⟨#HR, HO, Hcr, Hat⟩ Hk
  iapply (step_wait m ρ K c (rB 0) (iRB 0) (csem_RB 0) (ge_RB 0) (dst := (rbS c)) ((amt_rB 0).symm)) $$ [HO Hcr Hat]
  · isplitr; · iexact HR
    isplitl [HO]; · iexact HO
    isplitl [Hcr] <;> iassumption
  iintro ⟨HO, Hz, Hp⟩
  ihave Hp := (Entails.of_eq (pay_rB m ρ c 0)) $$ Hp
  unfold recvB rbPts
  iapply (wp_load 𝒱₀ (c : Thread nD τ) none Set.univ (m := rbM) (r := (Rect.unit (s := S4x288x512) (k0_off8 c 1#32) S1x288x512.size (k0_off8_inb c 0)).toLoadRect) (S := rbI (bwd 0 c)) (q := fullShare) (f := rbC m ρ c)
    (load_rb_set (bwd 0 c) (k0_off8 c 1#32) (off8_1_eq c) (k0_off8_inb c 0))) $$ Hp; iintro Hp
  rw [read_rb m ρ 0 c (k0_off8 c 1#32) (off8_1_eq c) (k0_off8_inb c 0)]
  iapply (wp_fin c ⟨(srcW (mw c) 1#32), gotV m ρ 0 c, selA n0 n1 n2 (srcW (mw c) 1#32), selB n3 (srcW (mw c) 1#32)⟩)
  isplitr; · ipureintro; rfl
  iapply Hk
  isplitl [HO]; · iexact HO
  isplitl [Hz] <;> iassumption

theorem part12 (v204 : BitVec 32) (V : FVec F S1024x512 .f32) {Kt : _ → sProp 𝕄} :
    iprop(records m ρ K ∗ ow c [] ∗ (cred (tallyAt (dC (rB 1) c) () (amt (rB 1))) ∗ atPos ER (dC (rB 1) c) 0 ∅ 0))
      ⊢ iprop((iprop(ow c [] ∗ (semVal (dC (rB 1) c) 0 ∗ recvB m ρ 1 c)) -∗ Kt ⟨addf V (termV (hotAt m ρ c (srcW (mw c) 1#32)) (gotV m ρ 0 c)), Scalar.subi (mw c) 2#32⟩) -∗ WP c (k0_part12 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (mw c) v204 (Scalar.addi 0#32 (cntAt m ρ 0 c)) (Scalar.addi (Scalar.addi 0#32 (cntAt m ρ 0 c)) (cntAt m ρ 1 c)) (Scalar.addi (Scalar.addi (Scalar.addi 0#32 (cntAt m ρ 0 c)) (cntAt m ρ 1 c)) (cntAt m ρ 2 c)) iotaT iotaL V (srcW (mw c) 1#32) (gotV m ρ 0 c) (selA (cntAt m ρ 0 c) (cntAt m ρ 1 c) (cntAt m ρ 2 c) (srcW (mw c) 1#32)) (selB (cntAt m ρ 3 c) (srcW (mw c) 1#32))) Kt) := by
  rw [k0_part12_eq_skeleton]; unfold k0_part12_skel
  simp only [semSignalWord, semWaitWord, smemLoad, smemLoadElt, Prog.lift, Prog.bind_op, Prog.bind_ret, Prog.pure_eq_ret, wp_deviceId]
  iintro ⟨#HR, HO, Hcr, Hat⟩ Hk
  iapply (step_wait m ρ K c (rB 1) (iRB 1) (csem_RB 1) (ge_RB 1) (dst := (rbS c)) ((amt_rB 1).symm)) $$ [HO Hcr Hat]
  · isplitr; · iexact HR
    isplitl [HO]; · iexact HO
    isplitl [Hcr] <;> iassumption
  iintro ⟨HO, Hz, Hp⟩
  ihave Hp := (Entails.of_eq (pay_rB m ρ c 1)) $$ Hp
  iapply (wp_fin c ⟨addf V (termV (hotAt m ρ c (srcW (mw c) 1#32)) (gotV m ρ 0 c)), Scalar.subi (mw c) 2#32⟩)
  isplitr; · ipureintro; rfl
  iapply Hk
  isplitl [HO]; · iexact HO
  isplitl [Hz] <;> iassumption

theorem part13 (n0 n1 n2 n3 p1 : BitVec 32) {Kt : _ → sProp 𝕄} :
    iprop(recvB m ρ 1 c)
      ⊢ iprop((iprop(recvB m ρ 1 c) -∗ Kt ⟨(srcW (mw c) 2#32), gotV m ρ 1 c, Scalar.addi (selA n0 n1 n2 (srcW (mw c) 2#32)) (selB n3 (srcW (mw c) 2#32)), selC p1 (srcW (mw c) 2#32), Scalar.cmpi .eq (srcW (mw c) 2#32) 2#32, 0#32⟩) -∗ WP c (k0_part13 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c n0 n1 n2 n3 p1 (Scalar.subi (mw c) 2#32)) Kt) := by
  rw [k0_part13_eq_skeleton]; unfold k0_part13_skel
  simp only [semSignalWord, semWaitWord, smemLoad, smemLoadElt, Prog.lift, Prog.bind_op, Prog.bind_ret, Prog.pure_eq_ret, wp_deviceId]
  iintro Hp Hk
  unfold recvB rbPts
  iapply (wp_load 𝒱₀ (c : Thread nD τ) none Set.univ (m := rbM) (r := (Rect.unit (s := S4x288x512) (k0_off8 c 2#32) S1x288x512.size (k0_off8_inb c 1)).toLoadRect) (S := rbI (bwd 1 c)) (q := fullShare) (f := rbC m ρ c)
    (load_rb_set (bwd 1 c) (k0_off8 c 2#32) (off8_2_eq c) (k0_off8_inb c 1))) $$ Hp; iintro Hp
  rw [read_rb m ρ 1 c (k0_off8 c 2#32) (off8_2_eq c) (k0_off8_inb c 1)]
  iapply (wp_fin c ⟨(srcW (mw c) 2#32), gotV m ρ 1 c, Scalar.addi (selA n0 n1 n2 (srcW (mw c) 2#32)) (selB n3 (srcW (mw c) 2#32)), selC p1 (srcW (mw c) 2#32), Scalar.cmpi .eq (srcW (mw c) 2#32) 2#32, 0#32⟩)
  isplitr; · ipureintro; rfl
  iapply Hk
  iexact Hp

theorem part14 (v242 : BitVec 32) (V : FVec F S1024x512 .f32) {Kt : _ → sProp 𝕄} :
    iprop(records m ρ K ∗ ow c [] ∗ (cred (tallyAt (dC (rB 2) c) () (amt (rB 2))) ∗ atPos ER (dC (rB 2) c) 0 ∅ 0))
      ⊢ iprop((iprop(ow c [] ∗ (semVal (dC (rB 2) c) 0 ∗ recvB m ρ 2 c)) -∗ Kt ⟨addf V (termV (hotAt m ρ c (srcW (mw c) 2#32)) (gotV m ρ 1 c)), (srcW (mw c) 3#32)⟩) -∗ WP c (k0_part14 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (mw c) v242 (Scalar.addi (Scalar.addi 0#32 (cntAt m ρ 0 c)) (cntAt m ρ 1 c)) (Scalar.addi (Scalar.addi (Scalar.addi 0#32 (cntAt m ρ 0 c)) (cntAt m ρ 1 c)) (cntAt m ρ 2 c)) iotaT iotaL V (srcW (mw c) 2#32) (gotV m ρ 1 c) (Scalar.addi (selA (cntAt m ρ 0 c) (cntAt m ρ 1 c) (cntAt m ρ 2 c) (srcW (mw c) 2#32)) (selB (cntAt m ρ 3 c) (srcW (mw c) 2#32))) (selC (Scalar.addi 0#32 (cntAt m ρ 0 c)) (srcW (mw c) 2#32)) (Scalar.cmpi .eq (srcW (mw c) 2#32) 2#32) 0#32) Kt) := by
  rw [k0_part14_eq_skeleton]; unfold k0_part14_skel
  simp only [semSignalWord, semWaitWord, smemLoad, smemLoadElt, Prog.lift, Prog.bind_op, Prog.bind_ret, Prog.pure_eq_ret, wp_deviceId]
  iintro ⟨#HR, HO, Hcr, Hat⟩ Hk
  iapply (step_wait m ρ K c (rB 2) (iRB 2) (csem_RB 2) (ge_RB 2) (dst := (rbS c)) ((amt_rB 2).symm)) $$ [HO Hcr Hat]
  · isplitr; · iexact HR
    isplitl [HO]; · iexact HO
    isplitl [Hcr] <;> iassumption
  iintro ⟨HO, Hz, Hp⟩
  ihave Hp := (Entails.of_eq (pay_rB m ρ c 2)) $$ Hp
  iapply (wp_fin c ⟨addf V (termV (hotAt m ρ c (srcW (mw c) 2#32)) (gotV m ρ 1 c)), (srcW (mw c) 3#32)⟩)
  isplitr; · ipureintro; rfl
  iapply Hk
  isplitl [HO]; · iexact HO
  isplitl [Hz] <;> iassumption

theorem part15 {Kt : _ → sProp 𝕄} :
    iprop(recvB m ρ 2 c)
      ⊢ iprop((iprop(recvB m ρ 2 c) -∗ Kt ⟨gotV m ρ 2 c, hotAt m ρ c (srcW (mw c) 3#32)⟩) -∗ WP c (k0_part15 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c (cntAt m ρ 0 c) (cntAt m ρ 1 c) (cntAt m ρ 2 c) (cntAt m ρ 3 c) (Scalar.addi 0#32 (cntAt m ρ 0 c)) (Scalar.addi (Scalar.addi 0#32 (cntAt m ρ 0 c)) (cntAt m ρ 1 c)) (Scalar.addi (Scalar.addi (Scalar.addi 0#32 (cntAt m ρ 0 c)) (cntAt m ρ 1 c)) (cntAt m ρ 2 c)) iotaT iotaL (srcW (mw c) 3#32)) Kt) := by
  rw [k0_part15_eq_skeleton]; unfold k0_part15_skel
  simp only [semSignalWord, semWaitWord, smemLoad, smemLoadElt, Prog.lift, Prog.bind_op, Prog.bind_ret, Prog.pure_eq_ret, wp_deviceId]
  iintro Hp Hk
  unfold recvB rbPts
  iapply (wp_load 𝒱₀ (c : Thread nD τ) none Set.univ (m := rbM) (r := (Rect.unit (s := S4x288x512) (k0_off8 c 3#32) S1x288x512.size (k0_off8_inb c 2)).toLoadRect) (S := rbI (bwd 2 c)) (q := fullShare) (f := rbC m ρ c)
    (load_rb_set (bwd 2 c) (k0_off8 c 3#32) (off8_3_eq c) (k0_off8_inb c 2))) $$ Hp; iintro Hp
  rw [read_rb m ρ 2 c (k0_off8 c 3#32) (off8_3_eq c) (k0_off8_inb c 2)]
  iapply (wp_fin c ⟨gotV m ρ 2 c, hotAt m ρ c (srcW (mw c) 3#32)⟩)
  isplitr; · ipureintro; rfl
  iapply Hk
  iexact Hp

theorem part16 (V : FVec F S1024x512 .f32) (f : Buf (Elt F) ((c : Thread nD τ).loc cc0_stg2_0)) {Kt : _ → sProp 𝕄} :
    iprop(records m ρ K ∗ ow c [] ∗ (cred (tallyAt (dC (sB 0) c) () (amt (sB 0))) ∗ atPos ER (dC (sB 0) c) 0 ∅ 0) ∗ (cred (tallyAt (dC (sB 1) c) () (amt (sB 1))) ∗ atPos ER (dC (sB 1) c) 0 ∅ 0) ∗ (cred (tallyAt (dC (sB 2) c) () (amt (sB 2))) ∗ atPos ER (dC (sB 2) c) 0 ∅ 0) ∗ oPts c f)
      ⊢ iprop((iprop(ow c [] ∗ (semVal (dC (sB 0) c) 0 ∗ sendB m ρ 0 c) ∗ (semVal (dC (sB 1) c) 0 ∗ sendB m ρ 1 c) ∗ (semVal (dC (sB 2) c) 0 ∗ sendB m ρ 2 c) ∗ oPts c (addf V (termV (hotAt m ρ c (srcW (mw c) 3#32)) (gotV m ρ 2 c)))) -∗ Kt ⟨⟩) -∗ WP c (k0_part16 (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9 c V (gotV m ρ 2 c) (hotAt m ρ c (srcW (mw c) 3#32))) Kt) := by
  rw [k0_part16_eq_skeleton]; unfold k0_part16_skel
  simp only [semSignalWord, semWaitWord, smemLoad, smemLoadElt, Prog.lift, Prog.bind_op, Prog.bind_ret, Prog.pure_eq_ret, wp_deviceId]
  iintro ⟨#HR, HO, ⟨Hcr0, Hat0⟩, ⟨Hcr1, Hat1⟩, ⟨Hcr2, Hat2⟩, Ho⟩ Hk
  iapply (wp_load 𝒱₀ (c : Thread nD τ) none Set.univ (m := oM) (Finset.subset_univ _)) $$ Ho; iintro Ho
  iapply (wp_store 𝒱₀ (c : Thread nD τ) none Set.univ (m := oM) (r := Rect.unit (s := S1024x512) ![0, 0] S1024x512.size inb_S1024x512_S1024x512_0_0) (Mk := Finset.univ) (Finset.subset_univ _)) $$ Ho; iintro Ho
  rw [write_o]
  iapply (step_wait m ρ K c (sB 0) (iSB 0) (csem_SB 0) (ge_SB 0) (dst := (sbS 0)) ((amt_sB 0).symm)) $$ [HO Hcr0 Hat0]
  · isplitr; · iexact HR
    isplitl [HO]; · iexact HO
    isplitl [Hcr0] <;> iassumption
  iintro ⟨HO, Hz0, Hp0⟩
  ihave Hp0 := (Entails.of_eq (pay_sB m ρ c 0)) $$ Hp0
  iapply (step_wait m ρ K c (sB 1) (iSB 1) (csem_SB 1) (ge_SB 1) (dst := (sbS 1)) ((amt_sB 1).symm)) $$ [HO Hcr1 Hat1]
  · isplitr; · iexact HR
    isplitl [HO]; · iexact HO
    isplitl [Hcr1] <;> iassumption
  iintro ⟨HO, Hz1, Hp1⟩
  ihave Hp1 := (Entails.of_eq (pay_sB m ρ c 1)) $$ Hp1
  iapply (step_wait m ρ K c (sB 2) (iSB 2) (csem_SB 2) (ge_SB 2) (dst := (sbS 2)) ((amt_sB 2).symm)) $$ [HO Hcr2 Hat2]
  · isplitr; · iexact HR
    isplitl [HO]; · iexact HO
    isplitl [Hcr2] <;> iassumption
  iintro ⟨HO, Hz2, Hp2⟩
  ihave Hp2 := (Entails.of_eq (pay_sB m ρ c 2)) $$ Hp2
  iapply (wp_fin c ⟨⟩)
  isplitr; · ipureintro; rfl
  iapply Hk
  isplitl [HO]; · iexact HO
  isplitl [Hz0 Hp0]; · isplitl [Hz0] <;> iassumption
  isplitl [Hz1 Hp1]; · isplitl [Hz1] <;> iassumption
  isplitl [Hz2 Hp2]; · isplitl [Hz2] <;> iassumption
  iexact Ho

end Parts

end Cert.KernelIdealProof

end
-- ==== Proof.Whole.lean ====
module
/-
# The body as a whole

The parts run in order, from what the launch deals a device to what the device gives back: the result in its place, every
semaphore at zero, nothing owed.
-/
public import proofs.«01_k».proof.Proof.Body
public import proofs.«01_k».proof.Proof.Gen.KernelIdeal.Points
public import proofs.«01_k».proof.Proof.Gen.KernelIdeal.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts with and what it gives back -/

/-- The device's positions at its fourteen cells, in the order of the numbering. -/
def atAll (c : Dev nD) : sProp 𝕄 :=
  iprop(atPos ER (barC c) 0 ∅ 0
    ∗ atPos ER (dC (sB 0) c) 0 ∅ 0 ∗ atPos ER (dC (sB 1) c) 0 ∅ 0 ∗ atPos ER (dC (sB 2) c) 0 ∅ 0
    ∗ atPos ER (dC (rB 0) c) 0 ∅ 0 ∗ atPos ER (dC (rB 1) c) 0 ∅ 0 ∗ atPos ER (dC (rB 2) c) 0 ∅ 0
    ∗ atPos ER (dC (sC 0) c) 0 ∅ 0 ∗ atPos ER (dC (sC 1) c) 0 ∅ 0 ∗ atPos ER (dC (sC 2) c) 0 ∅ 0
    ∗ atPos ER (dC (rC 0) c) 0 ∅ 0 ∗ atPos ER (dC (rC 1) c) 0 ∅ 0 ∗ atPos ER (dC (rC 2) c) 0 ∅ 0
    ∗ atPos ER (dC cpS c) 0 ∅ 0)

/-- The tokens of the duties the device pays. -/
def payToks (c : Dev nD) : sProp 𝕄 :=
  iprop(dutyTok ER (barC (fwd 0 c)) 0 0 ∗ dutyTok ER (barC (fwd 1 c)) 0 1 ∗ dutyTok ER (barC (fwd 2 c)) 0 2
    ∗ dutyTok ER (dC (sB 0) c) 0 0 ∗ dutyTok ER (dC (sB 1) c) 0 0 ∗ dutyTok ER (dC (sB 2) c) 0 0
    ∗ dutyTok ER (dC (rB 0) (fwd 0 c)) 0 0 ∗ dutyTok ER (dC (rB 1) (fwd 1 c)) 0 0 ∗ dutyTok ER (dC (rB 2) (fwd 2 c)) 0 0
    ∗ dutyTok ER (dC (sC 0) c) 0 0 ∗ dutyTok ER (dC (sC 1) c) 0 0 ∗ dutyTok ER (dC (sC 2) c) 0 0
    ∗ dutyTok ER (dC (rC 0) (fwd 0 c)) 0 0 ∗ dutyTok ER (dC (rC 1) (fwd 1 c)) 0 0 ∗ dutyTok ER (dC (rC 2) (fwd 2 c)) 0 0
    ∗ dutyTok ER (dC cpS c) 0 0)

/-- What the other devices will pay into the device's cells. -/
def creds (c : Dev nD) : sProp 𝕄 :=
  iprop(cred (tallyAt (barC c) () 3)
    ∗ cred (tallyAt (dC (rB 0) c) () (amt (rB 0))) ∗ cred (tallyAt (dC (rB 1) c) () (amt (rB 1))) ∗ cred (tallyAt (dC (rB 2) c) () (amt (rB 2)))
    ∗ cred (tallyAt (dC (rC 0) c) () (amt (rC 0))) ∗ cred (tallyAt (dC (rC 1) c) () (amt (rC 1))) ∗ cred (tallyAt (dC (rC 2) c) () (amt (rC 2))))

/-- The device's thirteen own cells at zero. -/
def ownZero (c : Dev nD) : sProp 𝕄 :=
  iprop(semVal (dC (sB 0) c) 0 ∗ semVal (dC (sB 1) c) 0 ∗ semVal (dC (sB 2) c) 0
    ∗ semVal (dC (rB 0) c) 0 ∗ semVal (dC (rB 1) c) 0 ∗ semVal (dC (rB 2) c) 0
    ∗ semVal (dC (sC 0) c) 0 ∗ semVal (dC (sC 1) c) 0 ∗ semVal (dC (sC 2) c) 0
    ∗ semVal (dC (rC 0) c) 0 ∗ semVal (dC (rC 1) c) 0 ∗ semVal (dC (rC 2) c) 0
    ∗ semVal (dC cpS c) 0)

/-- The five buffers the kernel works in, at some contents. -/
def scr (F : FTy → Type) (c : Dev nD) : sProp (MT nD τ sig Unit (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

omit [FloatOps F] in
theorem ct_whole (c : Dev nD) (f : Buf (Elt F) ((c : Thread nD τ).loc cc0_scratch1)) :
    ((((c : Thread nD τ).loc cc0_scratch1) ↦{fullShare} f) : sProp 𝕄) = ctPts c fullShare f := by unfold ctPts; rw [ct_set]
omit [FloatOps F] in
theorem cs_whole (c : Dev nD) (f : Buf (Elt F) ((c : Thread nD τ).loc cc0_scratch4)) :
    ((((c : Thread nD τ).loc cc0_scratch4) ↦{fullShare} f) : sProp 𝕄) = csAll c f := by unfold csAll; rw [cs_set]
omit [FloatOps F] in
theorem cg_whole (c : Dev nD) (f : Buf (Elt F) ((c : Thread nD τ).loc cc0_scratch3)) :
    ((((c : Thread nD τ).loc cc0_scratch3) ↦{fullShare} f) : sProp 𝕄) = cgAll c f := by unfold cgAll; rw [cg_set]

section Whole
variable (K : Dev nD × Fin 14 → ℕ) (c : Dev nD)

set_option maxHeartbeats 1600000 in
/-- The body, from what a device starts with to what it gives back. -/
theorem sound_body (fo : Buf (Elt F) ((c : Thread nD τ).loc cc0_stg2_0)) {Kt : PUnit → sProp 𝕄} :
    iprop(records m ρ K ∗ levAts L lv ∗ ow c (debt c) ∗ atAll c ∗ payToks c ∗ creds c ∗ scr F c ∗ xPts m ρ c ∗ dPts m ρ c ∗ oPts c fo)
      ⊢ iprop((iprop(ow c [] ∗ semVal (barC c) 0 ∗ ownZero c ∗ scr F c ∗ xPts m ρ c ∗ dPts m ρ c ∗ oPts c (outAt m ρ c)) -∗ Kt ⟨⟩)
        -∗ WP c (cc0_body (F := F) xM (Memref.isWhole_whole _) dM (Memref.isWhole_whole _) oM (Memref.isWhole_whole _) sbM (Memref.isWhole_whole _) ctM (Memref.isWhole_whole _) rbM (Memref.isWhole_whole _) cgM (Memref.isWhole_whole _) csM (Memref.isWhole_whole _) cc0_scratch5 cc0_scratch6 cc0_scratch7 cc0_scratch8 cc0_scratch9) Kt) := by
  rw [cc0_body_eq_skeleton]; unfold cc0_body_skel atAll payToks creds scr WP
  iintro ⟨#HR, #Hlev, HO, ⟨AB, AsB0, AsB1, AsB2, ArB0, ArB1, ArB2, AsC0, AsC1, AsC2, ArC0, ArC1, ArC2, Acp⟩,
    ⟨TB0, TB1, TB2, TsB0, TsB1, TsB2, TrB0, TrB1, TrB2, TsC0, TsC1, TsC2, TrC0, TrC1, TrC2, Tcp⟩,
    ⟨CB, CrB0, CrB1, CrB2, CrC0, CrC1, CrC2⟩,
    ⟨⟨%f0, S0⟩, ⟨%f1, S1⟩, ⟨%f2, S2⟩, ⟨%f3, S3⟩, ⟨%f4, S4⟩⟩, Hx, Hd, Hout⟩ Hk
  ihave S0 := (Entails.of_eq (sb_split c f0)) $$ S0
  icases S0 with ⟨M0, M1, M2⟩
  ihave S1 := (Entails.of_eq (ct_whole c f1)) $$ S1
  ihave S2 := (Entails.of_eq (rb_split c f2)) $$ S2
  icases S2 with ⟨Rown, R0, R1, R2⟩
  ihave S3 := (Entails.of_eq (cg_split c f3)) $$ S3
  icases S3 with ⟨Gown, G0, G1, G2⟩
  ihave S4 := (Entails.of_eq (cs_whole c f4)) $$ S4
  rw [wp_bind]
  iapply (part1 m ρ K c ) $$ [HO TB0 G0 R0 TB1 G1 R1]
  · isplitr; · iexact HR
    isplitl [HO]; · iexact HO
    isplitl [TB0 G0 R0]
    · isplitl [TB0]; · iexact TB0
      isplitl [G0]; · iexists _; iexact G0
      iexists _; iexact R0
    skip
    isplitl [TB1]; · iexact TB1
    isplitl [G1]; · iexists _; iexact G1
    iexists _; iexact R1
  iintro HO
  dsimp only
  rw [wp_bind]
  iapply (part2 m ρ K c _ _ _) $$ [HO TB2 G2 R2 CB AB Hd]
  · isplitr; · iexact HR
    isplitr; · iexact Hlev
    isplitl [HO]; · iexact HO
    isplitl [TB2 G2 R2]
    · isplitl [TB2]; · iexact TB2
      isplitl [G2]; · iexists _; iexact G2
      iexists _; iexact R2
    isplitl [CB]; · iexact CB
    isplitl [AB]; · iexact AB
    iexact Hd
  iintro ⟨HO, ZB, P0, P1, P2, Hd⟩
  dsimp only
  unfold barPay
  rw [bwd0, bwd1, bwd2]
  icases P0 with ⟨⟨%g2, G2⟩, ⟨%h2, R2⟩⟩
  icases P1 with ⟨⟨%g1, G1⟩, ⟨%h1, R1⟩⟩
  icases P2 with ⟨⟨%g0, G0⟩, ⟨%h0, R0⟩⟩
  rw [wp_bind]
  iapply (part3 m ρ c _ _) $$ [S1]
  · iexact S1
  iintro S1
  dsimp only
  ihave S1 := (Entails.of_eq (ct_split c (cntV (F := F) (dstg m ρ c)))) $$ S1
  icases S1 with ⟨Q0, Q1, Q2, Qk⟩
  rw [wp_bind]
  iapply (part4 m ρ K c _ _ _) $$ [HO Q0 G0 TsC0 TrC0 Q1 G1 TsC1 TrC1]
  · isplitr; · iexact HR
    isplitl [HO]; · iexact HO
    isplitl [Q0 G0 TsC0 TrC0]
    · isplitl [Q0]; · iexact Q0
      isplitl [G0]; · iexact G0
      isplitl [TsC0]; · iexact TsC0
      iexact TrC0
    skip
    isplitl [Q1]; · iexact Q1
    isplitl [G1]; · iexact G1
    isplitl [TsC1]; · iexact TsC1
    iexact TrC1
  iintro ⟨HO, CsC0, CsC1⟩
  dsimp only
  rw [wp_bind]
  iapply (part5 m ρ K c _ _ _) $$ [HO Q2 G2 TsC2 TrC2 Hd Hx M0]
  · isplitr; · iexact HR
    isplitl [HO]; · iexact HO
    isplitl [Q2 G2 TsC2 TrC2]
    · isplitl [Q2]; · iexact Q2
      isplitl [G2]; · iexact G2
      isplitl [TsC2]; · iexact TsC2
      iexact TrC2
    isplitl [Hd]; · iexact Hd
    isplitl [Hx]; · iexact Hx
    iexact M0
  iintro ⟨HO, CsC2, Hd, Hx, M0⟩
  dsimp only
  rw [wp_bind]
  iapply (part6 m ρ K c _ _ _) $$ [HO M0 R0 TsB0 TrB0 Hd Hx M1]
  · isplitr; · iexact HR
    isplitl [HO]; · iexact HO
    isplitl [M0]; · iexact M0
    isplitl [R0 TsB0 TrB0]
    · isplitl [R0]; · iexact R0
      isplitl [TsB0]; · iexact TsB0
      iexact TrB0
    isplitl [Hd]; · iexact Hd
    isplitl [Hx]; · iexact Hx
    iexact M1
  iintro ⟨HO, CsB0, Hd, Hx, M1⟩
  dsimp only
  rw [wp_bind]
  iapply (part7 m ρ K c _ _ _) $$ [HO R1 TsB1 TrB1 Hd Hx M1]
  · isplitr; · iexact HR
    isplitl [HO]; · iexact HO
    isplitl [R1 TsB1 TrB1]
    · isplitl [R1]; · iexact R1
      isplitl [TsB1]; · iexact TsB1
      iexact TrB1
    isplitl [Hd]; · iexact Hd
    isplitl [Hx]; · iexact Hx
    iexact M1
  iintro ⟨HO, CsB1, Hd, Hx⟩
  dsimp only
  rw [wp_bind]
  iapply (part8 m ρ K c _ _ _ _) $$ [HO R2 TsB2 TrB2 Hd Hx M2 CrC0 ArC0]
  · isplitr; · iexact HR
    isplitl [HO]; · iexact HO
    isplitl [R2 TsB2 TrB2]
    · isplitl [R2]; · iexact R2
      isplitl [TsB2]; · iexact TsB2
      iexact TrB2
    isplitl [Hd]; · iexact Hd
    isplitl [Hx]; · iexact Hx
    isplitl [M2]; · iexact M2
    skip
    isplitl [CrC0]; · iexact CrC0
    iexact ArC0
  iintro ⟨HO, CsB2, Hd, Hx, ZrC0, G0⟩
  dsimp only
  rw [wp_bind]
  iapply (part9 m ρ K c _ _ _ _ _) $$ [HO CrC1 ArC1 CrC2 ArC2 Qk Gown G0 S4 Tcp Acp]
  · isplitr; · iexact HR
    isplitl [HO]; · iexact HO
    isplitl [CrC1 ArC1]
    · isplitl [CrC1]; · iexact CrC1
      iexact ArC1
    isplitl [CrC2 ArC2]
    · isplitl [CrC2]; · iexact CrC2
      iexact ArC2
    isplitl [Qk]; · iexact Qk
    isplitl [Gown]; · iexact Gown
    isplitl [G0]; · iexact G0
    isplitl [S4]; · iexact S4
    isplitl [Tcp]; · iexact Tcp
    iexact Acp
  iintro ⟨HO, ZrC1, ZrC2, Zcp, Qk, Hcp⟩
  dsimp only
  rw [wp_bind]
  iapply (part10 m ρ c)
  rw [wp_bind]
  iapply (part11 m ρ K c _ _ _ _ _) $$ [HO CrB0 ArB0]
  · isplitr; · iexact HR
    isplitl [HO]; · iexact HO
    isplitl [CrB0]; · iexact CrB0
    iexact ArB0
  iintro ⟨HO, ZrB0, R0⟩
  dsimp only
  rw [wp_bind]
  iapply (part12 m ρ K c _ _) $$ [HO CrB1 ArB1]
  · isplitr; · iexact HR
    isplitl [HO]; · iexact HO
    isplitl [CrB1]; · iexact CrB1
    iexact ArB1
  iintro ⟨HO, ZrB1, R1⟩
  dsimp only
  rw [wp_bind]
  iapply (part13 m ρ c _ _ _ _ _) $$ [R1]
  · iexact R1
  iintro R1
  dsimp only
  rw [wp_bind]
  iapply (part14 m ρ K c _ _) $$ [HO CrB2 ArB2]
  · isplitr; · iexact HR
    isplitl [HO]; · iexact HO
    isplitl [CrB2]; · iexact CrB2
    iexact ArB2
  iintro ⟨HO, ZrB2, R2⟩
  dsimp only
  rw [wp_bind]
  iapply (part15 m ρ c ) $$ [R2]
  · iexact R2
  iintro R2
  dsimp only
  rw [wp_bind]
  iapply (part16 m ρ K c _ _) $$ [HO CsB0 AsB0 CsB1 AsB1 CsB2 AsB2 Hout]
  · isplitr; · iexact HR
    isplitl [HO]; · iexact HO
    isplitl [CsB0 AsB0]
    · isplitl [CsB0]; · iexact CsB0
      iexact AsB0
    isplitl [CsB1 AsB1]
    · isplitl [CsB1]; · iexact CsB1
      iexact AsB1
    isplitl [CsB2 AsB2]
    · isplitl [CsB2]; · iexact CsB2
      iexact AsB2
    iexact Hout
  iintro ⟨HO, ⟨ZsB0, M0⟩, ⟨ZsB1, M1⟩, ⟨ZsB2, M2⟩, Hout⟩
  simp only [Prog.lift, Prog.bind_op, Prog.bind_ret, Prog.pure_eq_ret]
  iapply (step_wait m ρ K c (sC 0) (iSC 0) (csem_SC 0) (ge_SC 0) (dst := ctM) ((amt_sC 0).symm)) $$ [HO CsC0 AsC0]
  · isplitr; · iexact HR
    isplitl [HO]; · iexact HO
    isplitl [CsC0] <;> iassumption
  iintro ⟨HO, ZsC0, Q0⟩
  ihave Q0 := (Entails.of_eq (pay_sC m ρ c 0)) $$ Q0
  iapply (step_wait m ρ K c (sC 1) (iSC 1) (csem_SC 1) (ge_SC 1) (dst := ctM) ((amt_sC 1).symm)) $$ [HO CsC1 AsC1]
  · isplitr; · iexact HR
    isplitl [HO]; · iexact HO
    isplitl [CsC1] <;> iassumption
  iintro ⟨HO, ZsC1, Q1⟩
  ihave Q1 := (Entails.of_eq (pay_sC m ρ c 1)) $$ Q1
  iapply (step_wait m ρ K c (sC 2) (iSC 2) (csem_SC 2) (ge_SC 2) (dst := ctM) ((amt_sC 2).symm)) $$ [HO CsC2 AsC2]
  · isplitr; · iexact HR
    isplitl [HO]; · iexact HO
    isplitl [CsC2] <;> iassumption
  iintro ⟨HO, ZsC2, Q2⟩
  ihave Q2 := (Entails.of_eq (pay_sC m ρ c 2)) $$ Q2
  iapply (wp_fin c PUnit.unit)
  isplitr; · ipureintro; rfl
  iapply Hk
  unfold ownZero cpPay recvB sendB sendC
  icases Hcp with ⟨S4, G⟩
  rw [bwd0, bwd1, bwd2]
  isplitl [HO]; · iexact HO
  isplitl [ZB]; · iexact ZB
  isplitl [ZsB0 ZsB1 ZsB2 ZrB0 ZrB1 ZrB2 ZsC0 ZsC1 ZsC2 ZrC0 ZrC1 ZrC2 Zcp]
  · isplitl [ZsB0]; · iexact ZsB0
    isplitl [ZsB1]; · iexact ZsB1
    isplitl [ZsB2]; · iexact ZsB2
    isplitl [ZrB0]; · iexact ZrB0
    isplitl [ZrB1]; · iexact ZrB1
    isplitl [ZrB2]; · iexact ZrB2
    isplitl [ZsC0]; · iexact ZsC0
    isplitl [ZsC1]; · iexact ZsC1
    isplitl [ZsC2]; · iexact ZsC2
    isplitl [ZrC0]; · iexact ZrC0
    isplitl [ZrC1]; · iexact ZrC1
    isplitl [ZrC2]; · iexact ZrC2
    iexact Zcp
  isplitl [M0 M1 M2 Q0 Q1 Q2 Qk Rown R0 R1 R2 G S4]
  · isplitl [M0 M1 M2]; · (iexists (sbC m ρ c); iapply (Entails.of_eq (sb_split c (sbC m ρ c)).symm); isplitl [M0] <;> first | iassumption | (isplitl [M1] <;> iassumption))
    isplitl [Q0 Q1 Q2 Qk]; · (iexists (cntV (F := F) (dstg m ρ c)); iapply (Entails.of_eq ((ct_whole c _).trans (ct_split c _)).symm); isplitl [Q0] <;> first | iassumption | (isplitl [Q1] <;> first | iassumption | (isplitl [Q2] <;> iassumption)))
    isplitl [Rown R0 R1 R2]; · (iapply (rb_join c f2 (rbC m ρ c)); isplitl [Rown] <;> first | iassumption | (isplitl [R2] <;> first | iassumption | (isplitl [R1] <;> iassumption)))
    isplitl [G]; · (iexists (cgC m ρ); iapply (Entails.of_eq (cg_whole c _).symm); iexact G)
    (iexists (cgC m ρ); iapply (Entails.of_eq (cs_whole c _).symm); iexact S4)
  isplitl [Hx]; · iexact Hx
  isplitl [Hd]; · iexact Hd
  iexact Hout

end Whole

end Cert.KernelIdealProof

end
-- ==== Proof.Launch.lean ====
module
/-
# The launch

The device's tokens, positions and credit at the start; the body's obligation; and the run of the whole program from any
memory with every counter at zero.
-/
public import proofs.«01_k».proof.Proof.Whole
public import Idealize.ShloMosaic.Lib.Quiescent
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after the kernel -/

def start (c : Dev nD) : sProp 𝕄 := iprop((∃ K, records m ρ K ∗ atAll c ∗ payToks c) ∗ creds c ∗ levAts L lv)
def Φ₀ (c : Dev nD) : sProp 𝕄 := iprop(start m ρ c ∗ scr F c)
def Φ₁ (F : FTy → Type) (c : Dev nD) : sProp (MT nD τ sig Unit (Elt F) ℕ UU ℕ) := iprop(scr F c ∗ ownZero c ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dstg m ρ c
    | ⟨2, _⟩ => outAt m ρ c
  Φ t := match t with
    | ⟨0, _⟩ => Φ₀ m ρ c
    | ⟨_ + 1, _⟩ => Φ₁ F c
  q _ := fullShare
  owed t := match t with
    | ⟨0, _⟩ => O₀ c
    | ⟨_ + 1, _⟩ => 0

abbrev t₀ : Fin cfg0.N := t0_0

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
def bodyPost (c : Dev nD) : sProp 𝕄 :=
  iprop(Φ₁ F c ∗ (dats m ρ 0 c).owesAt () t₀.succ ∗ stg c cc0_stg0_0 (xstg m ρ c) ∗ stg c cc0_stg1_0 (dstg m ρ c) ∗ stg c cc0_stg2_0 (outAt m ρ c))

theorem before_0 (c : Dev nD) (d) : (dats m ρ 0 c).before (0 : Fin 3) t₀ d = xstg m ρ c := by
  unfold Dat.before; rw [if_pos (fetch0_0 t₀)]; rfl
theorem before_1 (c : Dev nD) (d) : (dats m ρ 0 c).before (1 : Fin 3) t₀ d = dstg m ρ c := by
  unfold Dat.before; rw [if_pos (fetch0_1 t₀)]; rfl

set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 3) ∗ Φ (1 : Fin 3) ∗ Φ (2 : Fin 3)) from funext fun Φ => bigSep_W0 Φ]
  simp only [owns_stage]
  show bodyPre m ρ c ⊢ wp frame (wpE (defs₀ (F := F)) 𝒱₀ (c : Thread nD τ) none) Set.univ
    (cc0_body (F := F) xM (Memref.isWhole_whole _) dM (Memref.isWhole_whole _) oM (Memref.isWhole_whole _) sbM (Memref.isWhole_whole _) ctM (Memref.isWhole_whole _)
      rbM (Memref.isWhole_whole _) cgM (Memref.isWhole_whole _) csM (Memref.isWhole_whole _) cc0_scratch5 cc0_scratch6 cc0_scratch7 cc0_scratch8 cc0_scratch9)
    (fun _ => bodyPost m ρ c)
  unfold bodyPre Φ₀ start Dat.owesAt Pipeline.owesWithin
  simp only [before_0, before_1]
  iintro ⟨⟨⟨⟨%K, HR, Hat, Htok⟩, Hcr, Hlev⟩, Hscr⟩, ⟨%W, %hW, HO⟩, ⟨%dx, %fx, %hx, Hx⟩, ⟨%dd, %fd, %hd, Hd⟩, ⟨%od, %fo, %ho, Ho⟩⟩
  subst hx; subst hd
  iapply (sound_body m ρ K c fo) $$ [HR Hat Htok Hcr Hlev Hscr HO Hx Hd Ho]
  · isplitl [HR]; · iexact HR
    isplitl [Hlev]; · iexact Hlev
    isplitl [HO]; · unfold ow; iexists W; iexact HO
    isplitl [Hat]; · iexact Hat
    isplitl [Htok]; · iexact Htok
    isplitl [Hcr]; · iexact Hcr
    isplitl [Hscr]; · iexact Hscr
    isplitl [Hx]; · iexact Hx
    isplitl [Hd] <;> iassumption
  iintro ⟨HO, Hb, Hz, Hscr, Hx, Hd, Ho⟩
  unfold bodyPost Φ₁ Dat.owesAt Pipeline.owesWithin ow
  icases HO with ⟨%W', HO⟩
  isplitl [Hscr Hz Hb]
  · isplitl [Hscr]; · iexact Hscr
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hd]
  · iexists _; isplitr; · (ipureintro; rfl)
    iexact Hd
  iexists _; isplitr; · (ipureintro; rfl)
  iexact Ho

/-! ## The cells and their tokens at the start -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 14 → SemLoc sig) := by decide
theorem kcell_injective : Function.Injective (kcell : Dev nD × Fin 14 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The sixteen duties of a device's cells: three of its barrier cell, then one of each transfer cell. -/
def tokSem (j : Fin 16) : SemLoc sig × Fin 3 :=
  if h : j.val < 3 then (.reg barS, ⟨j.val, h⟩) else (.dma (⟨j.val, j.isLt⟩ : Fin 16), 0)
theorem tokSem_injective : Function.Injective tokSem := by decide
def tokOf (cj : Dev nD × Fin 16) : GSem nD τ sig × ℕ × Fin 3 := (((cj.1 : Thread nD τ), (tokSem cj.2).1), 0, (tokSem cj.2).2)
theorem tokOf_injective : Function.Injective tokOf := by
  rintro ⟨c, j⟩ ⟨c', j'⟩ h
  have h1 : c = c' := congrArg (fun x : GSem nD τ sig × ℕ × Fin 3 => x.1.1.1) h
  have h2 : j = j' := tokSem_injective (Prod.ext (congrArg (fun x : GSem nD τ sig × ℕ × Fin 3 => x.1.2) h) (congrArg (fun x : GSem nD τ sig × ℕ × Fin 3 => x.2.2) h))
  rw [h1, h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

def tk (c : Dev nD) (j : Fin 16) : sProp 𝕄 := dutyTok ER (tokOf (c, j)).1 (tokOf (c, j)).2.1 (tokOf (c, j)).2.2

/-- What the launch deals device `c`, -/
def G (c : Dev nD) : sProp 𝕄 :=
  iprop((bigSep Finset.univ fun k : Fin 14 => roundState ER (rd m ρ) (kcell (c, k)) 0)
    ∗ (bigSep Finset.univ fun k : Fin 14 => iprop(atPos ER (kcell (c, k)) 0 ∅ 0 ∗ reached ER (kcell (c, k)) 0)) ∗ bigSep Finset.univ fun j => tk (F := F) c j)
/-- and what the devices make of it together. -/
def G' (c : Dev nD) : sProp 𝕄 := iprop(∃ K, records m ρ K ∗ atAll c ∗ payToks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 14 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun j => tk (F := F) c j := by
    unfold allToks; rw [bigSep_map, bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄) = ownZero c := by
  rw [Pipeline.ownSems0_eq_of_list c osem [0, 1, 2, 3, 4, 5, 6, 7, 8, 9, 10, 11, 12] (by decide) (by decide)]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem bigSep_fin14 (Φ : Fin 14 → sProp 𝕄) : bigSep Finset.univ Φ = bigSepL [0, 1, 2, 3, 4, 5, 6, 7, 8, 9, 10, 11, 12, 13] Φ :=
  bigSep_univ_eq_bigSepL _ (by decide) (by decide) Φ
omit [FloatOps F] in
theorem bigSep_fin16 (Φ : Fin 16 → sProp 𝕄) : bigSep Finset.univ Φ = bigSepL [0, 1, 2, 3, 4, 5, 6, 7, 8, 9, 10, 11, 12, 13, 14, 15] Φ :=
  bigSep_univ_eq_bigSepL _ (by decide) (by decide) Φ

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 14 => semVal (kcell (c, k)) 0 : sProp 𝕄) := by
  rw [ownSems0_eq, unscopedSems0_eq, bigSep_fin14]
  iintro ⟨HO, HB⟩
  iapply (show iprop(semVal (barC c) 0 ∗ ownZero c) ⊢ (bigSepL [0, 1, 2, 3, 4, 5, 6, 7, 8, 9, 10, 11, 12, 13] fun k : Fin 14 => semVal (kcell (c, k)) 0 : sProp 𝕄) from Entails.of_eq rfl)
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ bigSep Finset.univ fun j => tk (F := F) c j) := by
  unfold G
  iintro ⟨Hos, Hus, Hst, Hat, Htok⟩
  ihave Hv := (sems0 (F := F) c) $$ [Hos Hus]
  · isplitl [Hos] <;> iassumption
  imod (show iprop((bigSep Finset.univ fun k : Fin 14 => semVal (kcell (c, k)) 0) ∗ bigSep Finset.univ fun k : Fin 14 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt around -/

/-- Where the `j`-th token of a device's cells goes: to the device that pays it. -/
def turn (j : Fin 16) : Dev nD ≃ Dev nD :=
  if h : j.val < 3 then rot ⟨j.val, h⟩
  else if 6 ≤ j.val ∧ j.val < 9 then rot ⟨(j.val - 6) % 3, Nat.mod_lt _ (by decide)⟩
  else if 12 ≤ j.val ∧ j.val < 15 then rot ⟨(j.val - 12) % 3, Nat.mod_lt _ (by decide)⟩
  else Equiv.refl _

omit [FloatOps F] in
theorem payToks_eq (c : Dev nD) : (bigSep Finset.univ fun j => tk (F := F) (turn j c) j) = payToks c := by
  rw [bigSep_fin16]; rfl

omit [FloatOps F] in
theorem sep_swap {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), ← bigSep_univ_prod (fun p : J × I => Φ p.2 p.1)]
  exact bigSep_univ_equiv (Equiv.prodComm J I) _

omit [FloatOps F] in
theorem toks_around : (bigSep Finset.univ fun c : Dev nD => bigSep Finset.univ fun j => tk (F := F) c j) = bigSep Finset.univ fun c : Dev nD => payToks c := by
  rw [sep_swap (fun (c : Dev nD) j => tk (F := F) c j),
    bigSep_congr (s := Finset.univ) (fun (j : Fin 16) _ => bigSep_univ_equiv (turn j) (fun c => tk (F := F) c j)),
    sep_swap (fun (j : Fin 16) (c : Dev nD) => tk (F := F) (turn j c) j)]
  exact bigSep_congr fun c _ => payToks_eq c

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 14 → ℕ) (c : Dev nD) : iprop(records m ρ K ∗ (atAll c ∗ payToks c)) ⊢ G' m ρ c := by
  unfold G'
  iintro H
  iexists K
  iexact H

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ bigSep Finset.univ fun j => tk (F := F) c j) : sProp 𝕄)
      ⊢ bigSep Finset.univ (G' m ρ) := by
  rw [bigSep_sep', bigSep_sep', ← bigSep_univ_prod (fun ck : Dev nD × Fin 14 => iprop(∃ κ : ℕ, cellInv ER (rd m ρ) κ (kcell ck))),
    bigSep_congr (s := Finset.univ) (fun (c : Dev nD) _ => bigSep_sep' Finset.univ (fun k : Fin 14 => (atPos ER (kcell (c, k)) 0 ∅ 0 : sProp 𝕄)) (fun k => reached ER (kcell (c, k)) 0)),
    bigSep_sep', ← bigSep_univ_prod (fun ck : Dev nD × Fin 14 => (reached ER (kcell ck) 0 : sProp 𝕄))]
  iintro ⟨HI, ⟨Hat, #HR⟩, Htok⟩
  ihave HK := (BI.bigSep_exists_pi Finset.univ (fun (ck : Dev nD × Fin 14) (κ : ℕ) => (cellInv ER (rd m ρ) κ (kcell ck) : sProp 𝕄))) $$ HI
  icases HK with ⟨%K, #HI⟩
  ihave Htk := (Entails.of_eq (toks_around (F := F))) $$ Htok
  iapply (with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 14 => (atPos ER (kcell (c, k)) 0 ∅ 0 : sProp 𝕄)) payToks).symm).trans
      (bigSep_mono fun c _ => show _ ⊢ iprop(atAll c ∗ payToks c) from Entails.of_eq (by rw [bigSep_fin14]; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The credit at the start -/

theorem tl_at (l : List (GSem nD τ sig × ℕ)) (g : GSem nD τ sig) : tl l g () = (l.map fun p => if g = p.1 then p.2 else 0).sum := by
  induction l with
  | nil => rfl
  | cons p l ih =>
    rw [List.map_cons, List.sum_cons, ← ih, tl_cons, Pi.add_apply, Finsupp.add_apply, tallyAt_apply, Nat.add_comm]
    congr 1
    by_cases h : g = p.1
    · rw [if_pos ⟨h, rfl⟩, if_pos h]
    · rw [if_neg (fun h' => h h'.1), if_neg h]

theorem cell_iff {s t : SemLoc sig} {a b : Dev nD} : (((a : Thread nD τ), s) : GSem nD τ sig) = ((b : Thread nD τ), t) ↔ (s = t ∧ b = a) :=
  ⟨fun h => ⟨congrArg Prod.snd h, congrArg (fun g : GSem nD τ sig => g.1.1) h.symm⟩, fun h => by rw [h.1, h.2]⟩

theorem sum_fwd (k : Fin 3) (c : Dev nD) (n : ℕ) : (∑ d : Dev nD, if fwd k d = c then n else 0) = n := by
  rw [Finset.sum_eq_single (bwd k c)]
  · rw [if_pos (fwd_bwd k c)]
  · intro d _ hd; rw [if_neg fun h => hd (by rw [← h, bwd_fwd])]
  · intro h; exact absurd (Finset.mem_univ _) h

theorem launch_at (sm : SemLoc sig) (c : Dev nD) (n : ℕ) (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem owed_at (sm : SemLoc sig) (c d : Dev nD) : O₀ d ((c : Thread nD τ), sm) () =
    (if sm = .reg barS ∧ fwd 0 d = c then 1 else 0) + ((if sm = .reg barS ∧ fwd 1 d = c then 1 else 0) + ((if sm = .reg barS ∧ fwd 2 d = c then 1 else 0)
    + ((if sm = .dma (rC 0) ∧ fwd 0 d = c then Nc else 0) + ((if sm = .dma (rC 1) ∧ fwd 1 d = c then Nc else 0) + ((if sm = .dma (rC 2) ∧ fwd 2 d = c then Nc else 0)
    + ((if sm = .dma (rB 0) ∧ fwd 0 d = c then Nb else 0) + ((if sm = .dma (rB 1) ∧ fwd 1 d = c then Nb else 0) + ((if sm = .dma (rB 2) ∧ fwd 2 d = c then Nb else 0) + 0)))))))) := by
  unfold O₀; rw [tl_at]
  simp only [debt, debtC, debtB, List.map_cons, List.map_nil, List.sum_cons, List.sum_nil, cell_iff]

theorem sum_one (sm t : SemLoc sig) (k : Fin 3) (c : Dev nD) (n : ℕ) :
    (∑ d : Dev nD, if sm = t ∧ fwd k d = c then n else 0) = if sm = t then n else 0 := by
  by_cases h : sm = t
  · rw [if_pos h]
    exact (Finset.sum_congr rfl fun d _ => by simp only [h, true_and]).trans (sum_fwd k c n)
  · rw [if_neg h]
    exact Finset.sum_eq_zero fun d _ => if_neg fun h' => h h'.1

theorem sum_at (sm : SemLoc sig) (c : Dev nD) : (∑ d : Dev nD, O₀ d ((c : Thread nD τ), sm) ()) =
    (if sm = .reg barS then 1 else 0) + ((if sm = .reg barS then 1 else 0) + ((if sm = .reg barS then 1 else 0)
    + ((if sm = .dma (rC 0) then Nc else 0) + ((if sm = .dma (rC 1) then Nc else 0) + ((if sm = .dma (rC 2) then Nc else 0)
    + ((if sm = .dma (rB 0) then Nb else 0) + ((if sm = .dma (rB 1) then Nb else 0) + ((if sm = .dma (rB 2) then Nb else 0) + 0)))))))) := by
  rw [Finset.sum_congr rfl fun d _ => owed_at sm c d]
  simp only [Finset.sum_add_distrib, sum_one, Finset.sum_const_zero]

theorem launch_bar (c : Dev nD) : (∑ d : Dev nD, O₀ d (barC c) ()) = 3 := by
  rw [sum_at, if_pos rfl, if_neg (by decide), if_neg (by decide), if_neg (by decide), if_neg (by decide), if_neg (by decide), if_neg (by decide)]
theorem launch_rB (k : Fin 3) (c : Dev nD) : (∑ d : Dev nD, O₀ d (dC (rB k) c) ()) = amt (rB k) := by
  rw [sum_at, amt_rB]
  generalize Nb = a; generalize Nc = b
  fin_cases k
  · rw [if_neg (by decide), if_neg (by decide), if_neg (by decide), if_neg (by decide), if_pos (by decide), if_neg (by decide), if_neg (by decide)]; omega
  · rw [if_neg (by decide), if_neg (by decide), if_neg (by decide), if_neg (by decide), if_neg (by decide), if_pos (by decide), if_neg (by decide)]; omega
  · rw [if_neg (by decide), if_neg (by decide), if_neg (by decide), if_neg (by decide), if_neg (by decide), if_neg (by decide), if_pos (by decide)]; omega
theorem launch_rC (k : Fin 3) (c : Dev nD) : (∑ d : Dev nD, O₀ d (dC (rC k) c) ()) = amt (rC k) := by
  rw [sum_at, amt_rC]
  generalize Nb = a; generalize Nc = b
  fin_cases k
  · rw [if_neg (by decide), if_pos (by decide), if_neg (by decide), if_neg (by decide), if_neg (by decide), if_neg (by decide), if_neg (by decide)]; omega
  · rw [if_neg (by decide), if_neg (by decide), if_pos (by decide), if_neg (by decide), if_neg (by decide), if_neg (by decide), if_neg (by decide)]; omega
  · rw [if_neg (by decide), if_neg (by decide), if_neg (by decide), if_pos (by decide), if_neg (by decide), if_neg (by decide), if_neg (by decide)]; omega

def paid : List (SemLoc sig) := [.reg barS, .dma (rB 0), .dma (rB 1), .dma (rB 2), .dma (rC 0), .dma (rC 1), .dma (rC 2)]

omit [FloatOps F] in
theorem creds_intro (c : Dev nD) : (Pipeline.launchCred O₀ c : sProp 𝕄) ⊢ creds c := by
  unfold Pipeline.launchCred
  refine BIBase.Entails.trans (bigSep_subset (Finset.subset_univ paid.toFinset)) ?_
  rw [bigSep_eq_bigSepL_of_eq paid rfl (by decide)]
  unfold creds
  rw [← launch_at (.reg barS) c 3 (launch_bar c), ← launch_at (.dma (rB 0)) c _ (launch_rB 0 c), ← launch_at (.dma (rB 1)) c _ (launch_rB 1 c),
    ← launch_at (.dma (rB 2)) c _ (launch_rB 2 c), ← launch_at (.dma (rC 0)) c _ (launch_rC 0 c), ← launch_at (.dma (rC 1)) c _ (launch_rC 1 c), ← launch_at (.dma (rC 2)) c _ (launch_rC 2 c)]
  exact Entails.of_eq rfl

/-! ### The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ F c from rfl, scopedRest0_eq, ownSems0_eq, unscopedSems0_eq]
  unfold Φ₁ scr
  iintro ⟨Hr, Hz, Hb⟩
  isplitl [Hb]; · iexact Hb
  isplitl [Hz] <;> iassumption

omit [FloatOps F] in
theorem mayWait_stage (c : Dev nD) (sm : SemLoc sig) (h0 : lv ((c : Thread nD τ), sm) () ≤ 0) (O : CellTallies nD τ sig Unit) (hO : O = O₀ c ∨ O = 0) :
    (levAts L lv : sProp 𝕄) ⊢ MayWait (c : Thread nD τ) sm () O := by
  rcases hO with rfl | rfl
  · exact mayWait_list c sm 0 (debt c) h0 (debt_cells c)
  · exact mayWait_list c sm 0 [] h0 (fun _ hp => absurd hp (List.not_mem_nil))

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> exact Nat.le_of_ble_eq_true rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero the program ends, with every array at its computed contents and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments hold what they held; -/
theorem final_x (c : Dev nD) : finalA m ρ c (0 : Fin 3) = m ((c : Thread nD τ).loc main_arg0) :=
  (dats (F := F) m ρ 0 c).arrAt_in (0 : Fin 3) rfl _
theorem final_d (c : Dev nD) : finalA m ρ c (1 : Fin 3) = m ((c : Thread nD τ).loc main_arg1) :=
  (dats (F := F) m ρ 0 c).arrAt_in (1 : Fin 3) rfl _

end Cert.KernelIdealProof

end
-- ==== Proof.Frames.lean ====
module
/-
# The frames

Each program runs to its end, leaves its arguments as they were, and leaves every counter at zero.
-/
public import proofs.«01_k».proof.Defs
public import proofs.«01_k».proof.Proof.Launch
public import proofs.«01_k».proof.Proof.Word.Launch
public import proofs.«01_k».proof.Proof.Gen.RaggedIdeal.Run
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

theorem frame_kernel : Cert.quiescent_Kernel := fun m ρ _ =>
  (θ_run Cert.Kernel.defs _ _).mono (fun _ h => ⟨fun c =>
      ⟨(h.1 c (0 : Fin 3)).trans (Cert.KernelProof.final_x m ρ c), (h.1 c (1 : Fin 3)).trans (Cert.KernelProof.final_d m ρ c)⟩, h.2⟩)
    (Cert.KernelProof.run_main (F := Bits) m ρ)

/-- The run of the idealized kernel: the result and the two arguments. -/
theorem run_kernelIdeal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
        r.2.mem ((c.tc : Thread Cert.KernelIdeal.nD Cert.KernelIdeal.τ).loc Cert.KernelIdeal.main_v1) = Cert.KernelIdealProof.finalA m ρ c (2 : Fin 3)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c =>
      ⟨h.1 c (2 : Fin 3), (h.1 c (0 : Fin 3)).trans (Cert.KernelIdealProof.final_x m ρ c), (h.1 c (1 : Fin 3)).trans (Cert.KernelIdealProof.final_d m ρ c)⟩, h.2⟩)
    (Cert.KernelIdealProof.run_main (F := Ideal) m ρ)

theorem frame_kernelIdeal : Cert.quiescent_KernelIdeal := fun m ρ _ =>
  (θ_run Cert.KernelIdeal.defs _ _).mono (fun _ h => ⟨fun c => (h.1 c).2, h.2⟩) (run_kernelIdeal m ρ)

theorem frame_ragged : Cert.quiescent_RaggedIdeal := fun m ρ _ =>
  (θ_run Cert.RaggedIdeal.defs _ _).mono (fun r h => ⟨fun c => (h c).2, sem_eq_zero_of_no_sems (by decide) r.2⟩)
    (Cert.RaggedIdeal.Value.run (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames

end
-- ==== Proof.Counting.lean ====
/- Counting rows: running counts of the rows with a property, and sums that place each such row by its count. -/
module

public import Idealize.ShloMosaic.Lib.Pointwise
public import Idealize.ShloMosaic.Lib.Routing.Count
public import Idealize.ShloMosaic.Lib.Routing.Ops

@[expose] public section

noncomputable section

namespace Cert.Counting

open Idealize.ShloMosaic
open scoped BigOperators

/-- Entry `n` of a column of words; zero past its end. -/
def col {N : ℕ} (D : (⟨2, ![N, 1]⟩ : Shape).Idx → BitVec 32) (n : ℕ) : BitVec 32 := if h : n < N then D (ix2 ⟨n, h⟩ 0) else 0#32

/-- Entry `j` of row `n`; zero past the last row. -/
def row {N W : ℕ} (X : (⟨2, ![N, W]⟩ : Shape).Idx → EReal) (n : ℕ) (j : Fin W) : EReal := if h : n < N then X (ix2 ⟨n, h⟩ j) else 0

theorem col_fin {N : ℕ} (D : (⟨2, ![N, 1]⟩ : Shape).Idx → BitVec 32) (i : Fin N) : col D i.val = D (ix2 i 0) := dif_pos i.isLt
theorem row_fin {N W : ℕ} (X : (⟨2, ![N, W]⟩ : Shape).Idx → EReal) (i : Fin N) (j : Fin W) : row X i.val j = X (ix2 i j) := dif_pos i.isLt

/-- Row `n` is addressed to `r`. -/
def Goes (d : ℕ → BitVec 32) (r : ℕ) (n : ℕ) : Prop := d n = BitVec.ofNat 32 r

instance (d : ℕ → BitVec 32) (r : ℕ) : DecidablePred (Goes d r) := fun n => inferInstanceAs (Decidable (d n = BitVec.ofNat 32 r))

/-- How many of the first `n` rows are addressed to `r`. -/
abbrev cnt (d : ℕ → BitVec 32) (r n : ℕ) : ℕ := Nat.count (Goes d r) n

theorem cnt_le (d : ℕ → BitVec 32) (r n : ℕ) : cnt d r n ≤ n := Nat.count_le _

/-- A block's rows counted from the block's first row. -/
theorem cnt_block (d e : ℕ → BitVec 32) (r a n : ℕ) (h : ∀ i, i < n → e i = d (a + i)) : cnt d r (a + n) = cnt d r a + cnt e r n := by
  unfold cnt
  rw [Nat.count_add]
  congr 1
  refine Routing.count_congr_of_lt _ fun i hi => ?_
  show (d (a + i) = _) ↔ (e i = _)
  rw [h i hi]

/-- Of the rows that fit into a message, each goes where its count puts it. -/
theorem place_sum (P : ℕ → Prop) [DecidablePred P] (f : ℕ → EReal) (o t N W : ℕ) (h : Nat.count P N ≤ W) :
    (∑ p : Fin W, (if p.val < Nat.count P N ∧ o + p.val = t then (1 : EReal) else 0) * (∑ x ∈ Finset.range N, if P x ∧ Nat.count P x = p.val then f x else 0))
      = ∑ x ∈ Finset.range N, if P x ∧ o + Nat.count P x = t then f x else 0 := by
  by_cases ht : o ≤ t ∧ t < o + Nat.count P N
  · have hp : t - o < W := by omega
    refine (Finset.sum_eq_single (⟨t - o, hp⟩ : Fin W) (fun b _ hb => ?_) (fun hb => absurd (Finset.mem_univ _) hb)).trans ?_
    · have : ¬(b.val < Nat.count P N ∧ o + b.val = t) := fun hh => hb (Fin.ext (by show b.val = t - o; omega))
      rw [if_neg this, zero_mul]
    · rw [if_pos (show t - o < Nat.count P N ∧ o + (t - o) = t by omega), one_mul]
      refine Finset.sum_congr rfl fun x _ => ?_
      have : (P x ∧ Nat.count P x = t - o) ↔ (P x ∧ o + Nat.count P x = t) := and_congr_right fun _ => by omega
      simp only [this]
  · refine (Finset.sum_eq_zero fun b _ => ?_).trans (Finset.sum_eq_zero fun x hx => ?_).symm
    · rw [if_neg (by omega), zero_mul]
    · have hx' := Finset.mem_range.1 hx
      refine if_neg fun hh => ht ?_
      have h1 : Nat.count P x < Nat.count P N := Nat.count_strict_mono hh.1 hx'
      omega

/-- The four blocks of 1024 rows are the 4096 rows. -/
theorem sum_blocks (g : ℕ → EReal) : (∑ n ∈ Finset.range 4096, g n)
    = (((∑ x ∈ Finset.range 1024, g (1024 * 0 + x)) + ∑ x ∈ Finset.range 1024, g (1024 * 1 + x)) + ∑ x ∈ Finset.range 1024, g (1024 * 2 + x))
      + ∑ x ∈ Finset.range 1024, g (1024 * 3 + x) := by
  rw [show (4096 : ℕ) = 1024 + 1024 + 1024 + 1024 from rfl, Finset.sum_range_add, Finset.sum_range_add, Finset.sum_range_add]
  simp only [Nat.mul_zero, Nat.zero_add]

/-- A sum over the one row that is addressed to `r` and has `t` such rows before it. -/
theorem sum_at (P : ℕ → Prop) [DecidablePred P] (f : ℕ → EReal) (N n : ℕ) (hn : n < N) (hP : P n) :
    (∑ x ∈ Finset.range N, if P x ∧ Nat.count P x = Nat.count P n then f x else 0) = f n := by
  refine (Finset.sum_eq_single n (fun b _ hb => if_neg fun hh => hb ?_) (fun hb => absurd (Finset.mem_range.2 hn) hb)).trans (if_pos ⟨hP, rfl⟩)
  exact Nat.count_injective hh.1 hP hh.2

/-- No row has that many before it. -/
theorem sum_none (P : ℕ → Prop) [DecidablePred P] (f : ℕ → EReal) (N t : ℕ) (ht : Nat.count P N ≤ t) :
    (∑ x ∈ Finset.range N, if P x ∧ Nat.count P x = t then f x else 0) = 0 := by
  refine Finset.sum_eq_zero fun x hx => if_neg fun hh => ?_
  have h1 : Nat.count P x < Nat.count P N := Nat.count_strict_mono hh.1 (Finset.mem_range.1 hx)
  omega

/-- A place below the count is some row's. -/
theorem exists_at (P : ℕ → Prop) [DecidablePred P] (N t : ℕ) (ht : t < Nat.count P N) : ∃ n, n < N ∧ P n ∧ Nat.count P n = t := by
  induction N with
  | zero => simp at ht
  | succ N ih =>
    rw [Nat.count_succ] at ht
    by_cases hN : P N
    · by_cases h : t < Nat.count P N
      · obtain ⟨n, h1, h2, h3⟩ := ih h
        exact ⟨n, by omega, h2, h3⟩
      · rw [if_pos hN] at ht
        exact ⟨N, by omega, hN, by omega⟩
    · rw [if_neg hN] at ht
      obtain ⟨n, h1, h2, h3⟩ := ih (by omega)
      exact ⟨n, by omega, h2, h3⟩

/-! ## Words -/

theorem cmpi_eq_if {w : ℕ} (a b : BitVec w) : IntOp.cmpi .eq a b = if a = b then 1#1 else 0#1 := by
  show BitVec.ofBool (a == b) = _
  by_cases h : a = b
  · subst h; simp
  · rw [beq_false_of_ne h, if_neg h]; rfl

theorem cmpi_slt_if (a b : ℕ) (ha : a < 2 ^ 31) (hb : b < 2 ^ 31) :
    IntOp.cmpi .slt (BitVec.ofNat 32 a) (BitVec.ofNat 32 b) = if a < b then 1#1 else 0#1 := by
  have h1 : (BitVec.ofNat 32 a).toInt = (a : ℤ) := StableHlo.Predicate.toInt_ofNat_small _ ha
  have h2 : (BitVec.ofNat 32 b).toInt = (b : ℤ) := StableHlo.Predicate.toInt_ofNat_small _ hb
  show BitVec.ofBool ((BitVec.ofNat 32 a).slt (BitVec.ofNat 32 b)) = _
  unfold BitVec.slt
  rw [h1, h2]
  by_cases h : a < b <;> simp [h]

theorem andi_if (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem setWidth_if (p : Prop) [Decidable p] : BitVec.setWidth 32 (if p then 1#1 else 0#1) = if p then 1#32 else 0#32 := by
  by_cases hp : p <;> simp [hp]

theorem select_if {α : Type} (p : Prop) [Decidable p] (a b : α) : Scalar.select (if p then 1#1 else 0#1) a b = if p then a else b := by
  by_cases hp : p <;> simp [hp, Scalar.select]

theorem sitofp_if (p : Prop) [Decidable p] : FloatOps.sitofp (F := Ideal) .f32 (if p then 1#32 else 0#32) = if p then (1 : EReal) else 0 := by
  by_cases hp : p
  · rw [if_pos hp, if_pos hp]
    show (((1#32 : BitVec 32).toInt : ℝ) : EReal) = 1
    norm_num
  · rw [if_neg hp, if_neg hp]
    show (((0#32 : BitVec 32).toInt : ℝ) : EReal) = 0
    norm_num

theorem ofNat_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem addi_ofNat (a b : ℕ) : IntOp.addi (BitVec.ofNat 32 a) (BitVec.ofNat 32 b) = BitVec.ofNat 32 (a + b) := (BitVec.ofNat_add a b).symm

/-- A sum of words of which at most one is not zero. -/
theorem fold_single {ι : Type} [DecidableEq ι] (S : Finset ι) (f : ι → BitVec 32) (r : ι) (h : ∀ i, i ≠ r → f i = 0#32) :
    S.fold IntOp.addi (0#32) f = if r ∈ S then f r else 0#32 := by
  induction S using Finset.induction_on with
  | empty => simp
  | insert a S ha ih =>
    rw [Finset.fold_insert ha, ih]
    by_cases e : a = r
    · subst e
      rw [if_neg ha, if_pos (Finset.mem_insert_self _ _)]
      exact BitVec.add_zero _
    · rw [h a e]
      have : r ∈ insert a S ↔ r ∈ S := by rw [Finset.mem_insert]; exact ⟨fun hh => hh.resolve_left (fun q => e q.symm), Or.inr⟩
      simp only [this]
      exact BitVec.zero_add _

end Cert.Counting
-- ==== Proof.Sorting.lean ====
/- The stable sort of a column of words that carries its positions: a row addressed to `r` lands behind the rows with smaller words and the earlier rows of the same word. -/
module

public import proofs.«01_k».proof.Proof.Counting
public import Idealize.ShloMosaic.Lib.PlanTiles.StableSort
public import Idealize.ShloMosaic.Lib.SortFacts
public import Idealize.ShloMosaic.Lib.Routing.Shapes

@[expose] public section

noncomputable section

namespace Cert.Sorting

open Idealize.ShloMosaic Cert.Counting

/-- In a list ordered by `R`, an entry stands behind just the entries that come before it. -/
theorem getElem_of_pairwise {ι : Type} (R : ι → ι → Prop) [DecidableRel R] (hirr : ∀ a, ¬R a a) (hasym : ∀ a b, R a b → ¬R b a)
    (L : List ι) (hs : L.Pairwise R) (n : ι) (hn : n ∈ L) : ∃ h : L.countP (fun b => decide (R b n)) < L.length, L[L.countP (fun b => decide (R b n))] = n := by
  induction L with
  | nil => simp at hn
  | cons a L ih =>
    obtain ⟨ha, hL⟩ := List.pairwise_cons.1 hs
    by_cases e : n = a
    · subst e
      have h0 : L.countP (fun b => decide (R b n)) = 0 := List.countP_eq_zero.2 fun b hb => by
        simpa using hasym _ _ (ha b hb)
      have h1 : (n :: L).countP (fun b => decide (R b n)) = 0 := by
        rw [List.countP_cons, h0]; simp [hirr n]
      refine ⟨by rw [h1]; simp, ?_⟩
      simp only [h1]
      rfl
    · have hn' : n ∈ L := (List.mem_cons.1 hn).resolve_left e
      obtain ⟨h, hh⟩ := ih hL hn'
      have h1 : (a :: L).countP (fun b => decide (R b n)) = L.countP (fun b => decide (R b n)) + 1 := by
        rw [List.countP_cons]; simp [ha n hn']
      refine ⟨by rw [h1, List.length_cons]; omega, ?_⟩
      simp only [h1, List.getElem_cons_succ]
      exact hh

/-- Counting over the positions is counting over the numbers below. -/
theorem countP_finRange (N : ℕ) (p : ℕ → Prop) [DecidablePred p] : (List.finRange N).countP (fun b => decide (p b.val)) = Nat.count p N := by
  rw [Nat.count, ← List.map_coe_finRange_eq_range, List.countP_map]
  rfl

/-- How many of the first `n` rows hold a smaller word than `r`, words read signed. -/
abbrev below (d : ℕ → BitVec 32) (r n : ℕ) : ℕ := Nat.count (fun b => (d b).toInt < (r : ℤ)) n

/-- Two exclusive properties are counted one by one. -/
theorem count_or (p q : ℕ → Prop) [DecidablePred p] [DecidablePred q] (h : ∀ n, p n → ¬q n) (N : ℕ) :
    Nat.count (fun n => p n ∨ q n) N = Nat.count p N + Nat.count q N := by
  induction N with
  | zero => simp
  | succ N ih =>
    rw [Nat.count_succ, Nat.count_succ, Nat.count_succ, ih]
    by_cases hp : p N <;> by_cases hq : q N
    · exact absurd hq (h N hp)
    · simp only [hp, hq, true_or, if_true, if_false]; omega
    · simp only [hp, hq, or_true, if_true, if_false]; omega
    · simp only [hp, hq, or_self, if_false]; omega

/-- A property cut off at `n`. -/
theorem count_cut (p : ℕ → Prop) [DecidablePred p] (n N : ℕ) (h : n ≤ N) : Nat.count (fun b => p b ∧ b < n) N = Nat.count p n := by
  induction N, h using Nat.le_induction with
  | base => exact Routing.count_congr_of_lt _ fun b hb => ⟨fun hh => hh.1, fun hh => ⟨hh, hb⟩⟩
  | succ N hN ih => rw [Nat.count_succ, ih, if_neg (by omega)]; omega

/-- The sort key: greater for smaller words. -/
def key (d : ℕ → BitVec 32) (b : ℕ) : ℕ := (2 ^ 31 - 1 - (d b).toInt).toNat

theorem key_lt (d : ℕ → BitVec 32) (a b : ℕ) : key d a < key d b ↔ (d b).toInt < (d a).toInt := by
  have h1 := BitVec.toInt_lt (x := d a)
  have h2 := BitVec.toInt_lt (x := d b)
  unfold key
  simp only [Nat.reduceSub] at h1 h2
  omega

theorem key_eq (d : ℕ → BitVec 32) (a b : ℕ) : key d a = key d b ↔ d a = d b := by
  constructor
  · intro h
    have h1 := BitVec.toInt_lt (x := d a)
    have h2 := BitVec.toInt_lt (x := d b)
    unfold key at h
    simp only [Nat.reduceSub] at h1 h2
    exact BitVec.eq_of_toInt_eq (by omega)
  · intro h; unfold key; rw [h]

/-- The rows before row `n` of word `r` in the sorted order, counted. -/
theorem count_before (d : ℕ → BitVec 32) (r n N : ℕ) (hn : n ≤ N) (hr : r < 2 ^ 31) (hg : Goes d r n) :
    Nat.count (fun b => key d n < key d b ∨ (key d b = key d n ∧ b < n)) N = below d r N + cnt d r n := by
  have e1 : (d n).toInt = (r : ℤ) := by
    rw [show d n = BitVec.ofNat 32 r from hg]; exact StableHlo.Predicate.toInt_ofNat_small _ hr
  rw [count_or _ _ (fun b h1 h2 => by omega)]
  congr 1
  · refine Routing.count_congr_of_lt _ fun b _ => ?_
    rw [key_lt, e1]
  · refine Eq.trans ?_ (count_cut (Goes d r) n N hn)
    refine Routing.count_congr_of_lt _ fun b _ => and_congr_left fun _ => ?_
    rw [key_eq, show d n = BitVec.ofNat 32 r from hg]
    rfl

/-- Every word of a key sorts the position of row `n` there. -/
theorem sorted_at (N : ℕ) (d : ℕ → BitVec 32) (r n : ℕ) (hn : n < N) (hr : r < 2 ^ 31) (hg : Goes d r n) :
    ∃ h : below d r N + cnt d r n < N,
      sortedFrom (n := N) (fun a b => decide (key d b.val < key d a.val)) ⟨below d r N + cnt d r n, h⟩ = ⟨n, hn⟩ := by
  let G : Fin N → ℕ := fun a => key d a.val
  have hL : (sortPositions N (fun a b => decide (G b < G a))).Pairwise (fun a b => key d b.val < key d a.val ∨ (key d a.val = key d b.val ∧ a.val < b.val)) :=
    PlanTiles.pairwise_stableSort_lex G (· < ·) (List.finRange N) (List.pairwise_lt_finRange N)
  have hp := perm_sortPositions N (fun a b => decide (G b < G a))
  obtain ⟨h, hh⟩ := getElem_of_pairwise (fun a b : Fin N => key d b.val < key d a.val ∨ (key d a.val = key d b.val ∧ a.val < b.val)) (fun a ha => by omega)
    (fun a b h1 h2 => by omega) _ hL ⟨n, hn⟩ (hp.mem_iff.2 (List.mem_finRange _))
  have hc : (sortPositions N (fun a b => decide (G b < G a))).countP (fun b => decide (key d n < key d b.val ∨ (key d b.val = key d n ∧ b.val < n))) = below d r N + cnt d r n := by
    rw [hp.countP_eq, ← count_before d r n N hn.le hr hg, ← countP_finRange]
  have h3 : below d r N + cnt d r n < N := by
    rw [← hc]; exact lt_of_lt_of_eq h (length_sortPositions _ _)
  refine ⟨h3, ?_⟩
  refine Eq.trans ?_ hh
  unfold sortedFrom
  rw [List.get_eq_getElem]
  congr 1
  exact hc.symm

/-- The comparator's answer, by the keys. -/
theorem cmp_key (d : ℕ → BitVec 32) (a b : ℕ) : (IntOp.cmpi .slt (d a) (d b) == 1#1) = decide (key d b < key d a) := by
  show (BitVec.ofBool ((d a).slt (d b)) == 1#1) = _
  unfold BitVec.slt
  by_cases hk : key d b < key d a
  · simp [hk, (key_lt d b a).1 hk]
  · have := fun hh => hk ((key_lt d b a).2 hh)
    rw [decide_eq_false this, decide_eq_false hk]; rfl

/-- The positions carried by the host's stable sort of a vector of words, by "smaller, read signed". -/
theorem sort2_at (N : ℕ) (hN : N ≤ 2 ^ 31) (cmp : BitVec 32 × BitVec 32 → BitVec 32 × BitVec 32 → BitVec 1) (hcmp : ∀ l r, cmp l r = IntOp.cmpi .slt l.1 r.1)
    (D : (⟨1, ![N]⟩ : Shape).Idx → BitVec 32) (y : (⟨1, ![N]⟩ : Shape).Idx → BitVec 32) (d : ℕ → BitVec 32) (hd : ∀ a : Fin N, D (ix1 a) = d a.val)
    (r n : ℕ) (hn : n < N) (hr : r < 2 ^ 31) (hg : Goes d r n) :
    ∃ h : below d r N + cnt d r n < N,
      (Host.sort2 ⟨1, ![N]⟩ 0 cmp D y).2 (ix1 ⟨below d r N + cnt d r n, h⟩) = y (ix1 ⟨n, hn⟩) := by
  obtain ⟨h, hh⟩ := sorted_at N d r n hn hr hg
  refine ⟨h, ?_⟩
  have hd0 : 0 < (⟨1, ![N]⟩ : Shape).rank := Nat.zero_lt_one
  have e : ∀ (j : (⟨1, ![N]⟩ : Shape).Idx) (c : Fin N), j.along (⟨0, hd0⟩ : Fin (⟨1, ![N]⟩ : Shape).rank) c = ix1 c :=
    fun j c => (Shape.Idx.along_rank1 j c).trans (Routing.ofFin_eq_ix1 c)
  have hb : ∀ j : (⟨1, ![N]⟩ : Shape).Idx,
      (fun a b : Fin N => cmp (D (j.along (⟨0, hd0⟩ : Fin (⟨1, ![N]⟩ : Shape).rank) a), y (j.along (⟨0, hd0⟩ : Fin (⟨1, ![N]⟩ : Shape).rank) a))
        (D (j.along (⟨0, hd0⟩ : Fin (⟨1, ![N]⟩ : Shape).rank) b), y (j.along (⟨0, hd0⟩ : Fin (⟨1, ![N]⟩ : Shape).rank) b)) == 1#1)
        = fun a b => decide (key d b.val < key d a.val) := fun j => by
    funext a b
    have e1 : D (j.along (⟨0, hd0⟩ : Fin (⟨1, ![N]⟩ : Shape).rank) a) = d a.val := (congrArg D (e j a)).trans (hd a)
    have e2 : D (j.along (⟨0, hd0⟩ : Fin (⟨1, ![N]⟩ : Shape).rank) b) = d b.val := (congrArg D (e j b)).trans (hd b)
    refine (congrArg (· == 1#1) (hcmp _ _)).trans ?_
    refine Eq.trans ?_ (cmp_key d a.val b.val)
    exact congrArg₂ (fun u v => IntOp.cmpi .slt u v == 1#1) e1 e2
  unfold Host.sort2
  rw [dif_pos hd0]
  refine congrArg y ((e _ _).trans (congrArg ix1 ?_))
  refine Eq.trans ?_ hh
  exact congrArg (fun B => sortedFrom (n := N) B ⟨below d r N + cnt d r n, h⟩) (hb _)

end Cert.Sorting

end
-- ==== Proof.Columns.lean ====
/- Sums over the rows of a mask of ranks: the rows of a column that are addressed to each rank, or hold a smaller word. -/
module

public import proofs.«01_k».proof.Proof.Sorting

@[expose] public section

noncomputable section

namespace Cert.Columns

open Idealize.ShloMosaic Cert.Counting Cert.Sorting

/-- Ones summed over the rows with a property. -/
theorem fold_count (p : ℕ → Prop) [DecidablePred p] (N : ℕ) :
    Finset.fold IntOp.addi (0#32) (fun i : Fin N => if p i.val then 1#32 else 0#32) Finset.univ = BitVec.ofNat 32 (Nat.count p N) := by
  induction N with
  | zero => simp
  | succ N ih =>
    rw [Fin.univ_castSuccEmb, Finset.fold_cons, Finset.fold_map]
    refine (congrArg (IntOp.addi _) ih).trans ?_
    rw [Nat.count_succ, Fin.val_last]
    by_cases h : p N
    · rw [if_pos h, if_pos h, show (1#32 : BitVec 32) = BitVec.ofNat 32 1 from rfl, addi_ofNat, Nat.add_comm]
    · rw [if_neg h, if_neg h]
      exact BitVec.zero_add _

theorem count_rows_4096 (msk : IVec ⟨2, ![4096, 4]⟩ 1) (hw : 1 < 32) (h : (⟨2, ![4096, 4]⟩ : Shape).ReducesTo [0] ⟨1, ![4]⟩)
    (hu : 0 < (⟨0, ![]⟩ : Shape).numel) (r : Fin 4) (p : ℕ → Prop) [DecidablePred p] (hp : ∀ i : Fin 4096, msk (ix2 i r) = if p i.val then 1#1 else 0#1) :
    Host.reduce IntOp.addi (extui 32 msk hw) (constantI ⟨0, ![]⟩ 32 0#32) h hu (ix1 r) = BitVec.ofNat 32 (Nat.count p 4096) := by
  pointwise
  refine Eq.trans ?_ (fold_count p 4096)
  refine congrArg (fun f => Finset.fold IntOp.addi (0#32) f Finset.univ) (funext fun i => ?_)
  rw [hp, setWidth_if]

theorem count_rows_1024 (msk : IVec ⟨2, ![1024, 4]⟩ 1) (hw : 1 < 32) (h : (⟨2, ![1024, 4]⟩ : Shape).ReducesTo [0] ⟨1, ![4]⟩)
    (hu : 0 < (⟨0, ![]⟩ : Shape).numel) (r : Fin 4) (p : ℕ → Prop) [DecidablePred p] (hp : ∀ i : Fin 1024, msk (ix2 i r) = if p i.val then 1#1 else 0#1) :
    Host.reduce IntOp.addi (extui 32 msk hw) (constantI ⟨0, ![]⟩ 32 0#32) h hu (ix1 r) = BitVec.ofNat 32 (Nat.count p 1024) := by
  pointwise
  refine Eq.trans ?_ (fold_count p 1024)
  refine congrArg (fun f => Finset.fold IntOp.addi (0#32) f Finset.univ) (funext fun i => ?_)
  rw [hp, setWidth_if]

/-- A fold of bits by «and» is 1 only where each of them is. -/
theorem fold_andi {ι : Type} [DecidableEq ι] (s : Finset ι) (p : ι → BitVec 1) (h : Finset.fold IntOp.andi (1#1) p s = 1#1) : ∀ x ∈ s, p x = 1#1 := by
  induction s using Finset.induction_on with
  | empty => exact fun x hx => absurd hx (Finset.notMem_empty _)
  | insert a s ha ih =>
    rw [Finset.fold_insert ha] at h
    have h2 : p a = 1#1 ∧ Finset.fold IntOp.andi (1#1) p s = 1#1 := by
      generalize Finset.fold IntOp.andi (1#1) p s = y at h
      generalize p a = x at h
      revert h; revert x y; decide
    intro x hx
    rcases Finset.mem_insert.1 hx with rfl | hx
    · exact h2.1
    · exact ih h2.2 x hx

/-- All of four flags. -/
theorem all_four (b : IVec ⟨1, ![4]⟩ 1) (h : (⟨1, ![4]⟩ : Shape).ReducesTo [0] ⟨0, ![]⟩) (hu : 0 < (⟨0, ![]⟩ : Shape).numel) (j : (⟨0, ![]⟩ : Shape).Idx)
    (hj : Host.reduce IntOp.andi b (constantI ⟨0, ![]⟩ 1 1#1) h hu j = 1#1) (r : Fin 4) : b (ix1 r) = 1#1 := by
  revert hj
  pointwise
  intro hj
  exact fold_andi _ _ hj r (Finset.mem_univ _)

theorem le_of_sle (a b : ℕ) (ha : a < 2 ^ 31) (hb : b < 2 ^ 31) (h : IntOp.cmpi .sle (BitVec.ofNat 32 a) (BitVec.ofNat 32 b) = 1#1) : a ≤ b := by
  have h1 : (BitVec.ofNat 32 a).toInt = (a : ℤ) := StableHlo.Predicate.toInt_ofNat_small _ ha
  have h2 : (BitVec.ofNat 32 b).toInt = (b : ℤ) := StableHlo.Predicate.toInt_ofNat_small _ hb
  by_contra hn
  have h3 : IntOp.cmpi .sle (BitVec.ofNat 32 a) (BitVec.ofNat 32 b) = 0#1 := by
    show BitVec.ofBool ((BitVec.ofNat 32 a).sle (BitVec.ofNat 32 b)) = _
    unfold BitVec.sle
    rw [h1, h2, decide_eq_false (by omega)]
    rfl
  rw [h3] at h
  exact absurd h (by decide)

theorem slt_rank (a : BitVec 32) (r : ℕ) (hr : r < 2 ^ 31) : IntOp.cmpi .slt a (BitVec.ofNat 32 r) = if a.toInt < (r : ℤ) then 1#1 else 0#1 := by
  have h2 : (BitVec.ofNat 32 r).toInt = (r : ℤ) := StableHlo.Predicate.toInt_ofNat_small _ hr
  show BitVec.ofBool (a.slt (BitVec.ofNat 32 r)) = _
  unfold BitVec.slt
  rw [h2]
  by_cases h : a.toInt < (r : ℤ)
  · rw [if_pos h, decide_eq_true h]; rfl
  · rw [if_neg h, decide_eq_false h]; rfl

end Cert.Columns

end
-- ==== Proof.Pre.lean ====
/- The preconditions, read: what `fits` and `balanced` say of the counts. -/
module

public import proofs.«01_k».proof.Proof.Columns
public import proofs.«01_k».proof.Pre_fits_KernelIdeal
public import proofs.«01_k».proof.Pre_fits_RaggedIdeal
public import proofs.«01_k».proof.On_balanced

@[expose] public section

noncomputable section

namespace Cert.Pre

open Idealize.ShloMosaic Cert.Counting Cert.Columns

/-! ## The side conditions -/

theorem kernelFits_bcast_S4_S1x4_1 : Cert.Pre_fits_KernelIdeal.S4.BroadcastsInDim Cert.Pre_fits_KernelIdeal.S1x4 (![1] : Fin 1 → Fin Cert.Pre_fits_KernelIdeal.S1x4.rank) := by decide
theorem kernelFits_bcast_col : Cert.Pre_fits_KernelIdeal.S1024x1.BroadcastsInDim Cert.Pre_fits_KernelIdeal.S1024x4 (![0, 1] : Fin 2 → Fin Cert.Pre_fits_KernelIdeal.S1024x4.rank) := by decide
theorem kernelFits_bcast_row : Cert.Pre_fits_KernelIdeal.S1x4.BroadcastsInDim Cert.Pre_fits_KernelIdeal.S1024x4 (![0, 1] : Fin 2 → Fin Cert.Pre_fits_KernelIdeal.S1024x4.rank) := by decide
theorem kernelFits_sum : Cert.Pre_fits_KernelIdeal.S1024x4.ReducesTo [0] Cert.Pre_fits_KernelIdeal.S4 := by decide
theorem kernelFits_numel : 0 < Cert.Pre_fits_KernelIdeal.S_.numel := by decide
theorem kernelFits_bcast_S_S4 : Cert.Pre_fits_KernelIdeal.S_.BroadcastsInDim Cert.Pre_fits_KernelIdeal.S4 (![] : Fin 0 → Fin Cert.Pre_fits_KernelIdeal.S4.rank) := by decide
theorem kernelFits_all : Cert.Pre_fits_KernelIdeal.S4.ReducesTo [0] Cert.Pre_fits_KernelIdeal.S_ := by decide
theorem fits_bcast_col : Cert.Pre_fits_RaggedIdeal.S4096x1.BroadcastsInDim Cert.Pre_fits_RaggedIdeal.S4096x4 (![0, 1] : Fin 2 → Fin Cert.Pre_fits_RaggedIdeal.S4096x4.rank) := by decide
theorem fits_bcast_row : Cert.Pre_fits_RaggedIdeal.S1x4.BroadcastsInDim Cert.Pre_fits_RaggedIdeal.S4096x4 (![0, 1] : Fin 2 → Fin Cert.Pre_fits_RaggedIdeal.S4096x4.rank) := by decide
theorem fits_sum : Cert.Pre_fits_RaggedIdeal.S4096x4.ReducesTo [0] Cert.Pre_fits_RaggedIdeal.S4 := by decide
theorem balanced_bcast : Cert.On_balanced.S_.BroadcastsInDim Cert.On_balanced.S4096x512 (![] : Fin 0 → Fin Cert.On_balanced.S4096x512.rank) := by decide

instance kernelFits_facts : Cert.Pre_fits_KernelIdeal.Facts where
  bcast_S4_S1x4_1 := kernelFits_bcast_S4_S1x4_1
  bcast_S1024x1_S1024x4_0_1 := kernelFits_bcast_col
  bcast_S1x4_S1024x4_0_1 := kernelFits_bcast_row
  natLt_1_32 := by decide
  reducesTo_S1024x4_S4_d0 := kernelFits_sum
  h_S_ := kernelFits_numel
  bcast_S_S4 := kernelFits_bcast_S_S4
  reducesTo_S4_S_d0 := kernelFits_all

instance raggedFits_facts : Cert.Pre_fits_RaggedIdeal.Facts where
  bcast_S4_S1x4_1 := kernelFits_bcast_S4_S1x4_1
  bcast_S4096x1_S4096x4_0_1 := fits_bcast_col
  bcast_S1x4_S4096x4_0_1 := fits_bcast_row
  natLt_1_32 := by decide
  reducesTo_S4096x4_S4_d0 := fits_sum
  h_S_ := kernelFits_numel
  bcast_S_S4 := kernelFits_bcast_S_S4
  reducesTo_S4_S_d0 := kernelFits_all

instance balanced_facts : Cert.On_balanced.Facts where
  bcast_S4_S1x4_1 := kernelFits_bcast_S4_S1x4_1
  bcast_S4096x1_S4096x4_0_1 := fits_bcast_col
  bcast_S1x4_S4096x4_0_1 := fits_bcast_row
  natLt_1_32 := by decide
  reducesTo_S4096x4_S4_d0 := fits_sum
  h_S_ := kernelFits_numel
  bcast_S_S4 := kernelFits_bcast_S_S4
  reducesTo_S4_S_d0 := kernelFits_all
  bcast_S_S4096x512 := balanced_bcast

/-! ## What they say -/

/-- A device that fits sends at most 288 rows to each rank. -/
theorem fits_at (X : FVec Ideal Cert.Pre_fits_KernelIdeal.S1024x512 .f32) (D : IVec Cert.Pre_fits_KernelIdeal.S1024x1 32)
    (h : Cert.Pre_fits_KernelIdeal.fn X D = fun _ => 1#1) (r : Fin 4) : cnt (col D) r.val 1024 ≤ 288 := by
  have h1 := all_four _ _ _ ix0 (congrFun h ix0) r
  revert h1
  refine fun h1 => le_of_sle _ 288 (lt_of_le_of_lt (cnt_le _ _ _) (by decide)) (by decide) ?_
  refine Eq.trans ?_ h1
  refine congrArg (IntOp.cmpi .sle · 288#32) (count_rows_1024 _ _ _ _ r (Goes (col D) r.val) fun i => ?_).symm
  pointwise
  rw [cmpi_eq_if]
  refine if_congr ?_ rfl rfl
  show _ ↔ col D i.val = _
  rw [col_fin]

/-- Where the destinations are balanced, each rank is the destination of 1024 rows. -/
theorem balanced_at (X : FVec Ideal Cert.On_balanced.S4096x512 .f32) (D : IVec Cert.On_balanced.S4096x1 32) (j : Cert.On_balanced.S4096x512.Idx)
    (h : Cert.On_balanced.fn X D j = 1#1) (r : Fin 4) : cnt (col D) r.val 4096 = 1024 := by
  have h0 : Host.reduce IntOp.andi _ _ Cert.On_balanced.Facts.reducesTo_S4_S_d0 Cert.On_balanced.Facts.h_S_ ix0 = 1#1 := (Routing.bc0 Cert.On_balanced.Facts.bcast_S_S4096x512 _ j).symm.trans h
  have h1 := all_four _ _ _ _ h0 r
  have h2 : IntOp.cmpi .eq (BitVec.ofNat 32 (cnt (col D) r.val 4096)) 1024#32 = 1#1 := by
    refine Eq.trans ?_ h1
    refine congrArg (IntOp.cmpi .eq · 1024#32) (count_rows_4096 _ _ _ _ r (Goes (col D) r.val) fun i => ?_).symm
    pointwise
    rw [cmpi_eq_if]
    refine if_congr ?_ rfl rfl
    show _ ↔ col D i.val = _
    rw [col_fin]
  rw [cmpi_eq_if] at h2
  by_contra hn
  rw [if_neg fun e => hn ((ofNat_inj (lt_of_le_of_lt (cnt_le _ _ _) (by decide)) (by decide)).1 e)] at h2
  exact absurd h2 (by decide)

end Cert.Pre

end
-- ==== Proof.Staged.lean ====
/- What the windows hold: each is its whole array, so the kernel reads its arguments as they are and its result array ends as the kernel left it. -/
module

public import proofs.«01_k».proof.Proof.Launch
public import Idealize.ShloMosaic.Lib.Pipeline.ValueKit.Geometry

@[expose] public section

noncomputable section

namespace Cert.KernelIdealProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem xstg_eq (c : Dev nD) : xstg m ρ c = m ((c.tc : Thread nD τ).loc main_arg0) := by
  funext i
  refine congrArg (m ((c.tc : Thread nD τ).loc main_arg0)) (funext fun a => Fin.ext ?_)
  exact win0_0.rect_emb_val_of_index_zero (0 : Fin 1) a rfl i

theorem dstg_eq (c : Dev nD) : dstg m ρ c = m ((c.tc : Thread nD τ).loc main_arg1) := by
  funext i
  refine congrArg (m ((c.tc : Thread nD τ).loc main_arg1)) (funext fun a => Fin.ext ?_)
  exact win0_1.rect_emb_val_of_index_zero (0 : Fin 1) a rfl i

/-- The result array ends as the kernel left it. -/
theorem final_o (c : Dev nD) : finalA m ρ c (2 : Fin 3) = outAt m ρ c :=
  (dats (F := F) m ρ 0 c).arrAt_eq_of_after_last (2 : Fin 3) t₀ (by decide +kernel) (outAt m ρ c) (fun j => rfl)

end Cert.KernelIdealProof

end
-- ==== Proof.Values.lean ====
/- What the kernel computes, entry by entry: the running counts of the destinations, each row's place, the message blocks,
   and the places of the message rows in the result. -/
module

public import proofs.«01_k».proof.Proof.Body
public import proofs.«01_k».proof.Proof.Counting

@[expose] public section

noncomputable section

namespace Cert.KernelIdealProof

open Cert.KernelIdeal Cert.KernelIdeal.Gen Cert.Counting
open Idealize.ShloMosaic
open scoped BigOperators

/-! ## The running counts -/

variable (D : Vec Ideal S1024x1 .i32)

/-- Entry (i, l) counts the rows addressed to `l` among the last `n` up to row `i`. -/
def Win (n : ℕ) (a : IVec S1024x128 32) : Prop :=
  ∀ (i : Fin 1024) (l : Fin 128), a (ix2 i l) = BitVec.ofNat 32 (cnt (col D) l.val (i.val + 1) - cnt (col D) l.val (i.val + 1 - n))

theorem one_at (i : Fin 1024) (l : Fin 128) : k0_pay1 D (ix2 i l) = if Goes (col D) l.val i.val then 1#32 else 0#32 := by
  pointwise [k0_pay1]
  rw [cmpi_eq_if, setWidth_if]
  refine if_congr ?_ rfl rfl
  show _ ↔ col D i.val = _
  rw [col_fin]

theorem win_one : Win D 1 (k0_pay1 D) := fun i l => by
  rw [one_at, Nat.add_sub_cancel]
  unfold cnt
  rw [Nat.count_succ, Nat.add_sub_cancel_left]
  by_cases h : Goes (col D) l.val i.val <;> simp [h]

theorem win_step {a b : IVec S1024x128 32} (n n2 : ℕ) (hn : n + n = n2) (ha : Win D n a)
    (hb : ∀ (i : Fin 1024) (l : Fin 128), b (ix2 i l) = IntOp.addi (a (ix2 i l)) (if h : i.val < n then 0#32 else a (ix2 ⟨i.val - n, by omega⟩ l))) :
    Win D n2 b := fun i l => by
  subst hn
  rw [hb, ha]
  by_cases h : i.val < n
  · rw [dif_pos h]
    have e : i.val + 1 - (n + n) = i.val + 1 - n := by omega
    rw [e]
    exact BitVec.add_zero _
  · rw [dif_neg h, ha, addi_ofNat]
    congr 1
    have h1 : cnt (col D) l.val (i.val + 1 - n) ≤ cnt (col D) l.val (i.val + 1) := Nat.count_monotone _ (by omega)
    have h2 : cnt (col D) l.val (i.val - n + 1 - n) ≤ cnt (col D) l.val (i.val - n + 1) := Nat.count_monotone _ (by omega)
    have e1 : i.val - n + 1 = i.val + 1 - n := by omega
    have e2 : i.val + 1 - n - n = i.val + 1 - (n + n) := by omega
    show _ + (cnt (col D) l.val (i.val - n + 1) - cnt (col D) l.val (i.val - n + 1 - n)) = _
    rw [e1] at h2 ⊢
    rw [e2] at h2 ⊢
    omega

def add1 (a : IVec S1024x128 32) : IVec S1024x128 32 := addi a (concatenate S1024x128 0 [⟨S1x128, broadcast S1x128 0#32⟩, ⟨S1023x128, extractStridedSlice S1023x128 ![0, 0] a slices_S1024x128_o0_0_S1023x128⟩] concatenates_S1x128_S1023x128_S1024x128_d0)
def add2 (a : IVec S1024x128 32) : IVec S1024x128 32 := addi a (concatenate S1024x128 0 [⟨S2x128, broadcast S2x128 0#32⟩, ⟨S1022x128, extractStridedSlice S1022x128 ![0, 0] a slices_S1024x128_o0_0_S1022x128⟩] concatenates_S2x128_S1022x128_S1024x128_d0)
def add4 (a : IVec S1024x128 32) : IVec S1024x128 32 := addi a (concatenate S1024x128 0 [⟨S4x128, broadcast S4x128 0#32⟩, ⟨S1020x128, extractStridedSlice S1020x128 ![0, 0] a slices_S1024x128_o0_0_S1020x128⟩] concatenates_S4x128_S1020x128_S1024x128_d0)
def add8 (a : IVec S1024x128 32) : IVec S1024x128 32 := addi a (concatenate S1024x128 0 [⟨S8x128, broadcast S8x128 0#32⟩, ⟨S1016x128, extractStridedSlice S1016x128 ![0, 0] a slices_S1024x128_o0_0_S1016x128⟩] concatenates_S8x128_S1016x128_S1024x128_d0)
def add16 (a : IVec S1024x128 32) : IVec S1024x128 32 := addi a (concatenate S1024x128 0 [⟨S16x128, broadcast S16x128 0#32⟩, ⟨S1008x128, extractStridedSlice S1008x128 ![0, 0] a slices_S1024x128_o0_0_S1008x128⟩] concatenates_S16x128_S1008x128_S1024x128_d0)
def add32 (a : IVec S1024x128 32) : IVec S1024x128 32 := addi a (concatenate S1024x128 0 [⟨S32x128, broadcast S32x128 0#32⟩, ⟨S992x128, extractStridedSlice S992x128 ![0, 0] a slices_S1024x128_o0_0_S992x128⟩] concatenates_S32x128_S992x128_S1024x128_d0)
def add64 (a : IVec S1024x128 32) : IVec S1024x128 32 := addi a (concatenate S1024x128 0 [⟨S64x128, broadcast S64x128 0#32⟩, ⟨S960x128, extractStridedSlice S960x128 ![0, 0] a slices_S1024x128_o0_0_S960x128⟩] concatenates_S64x128_S960x128_S1024x128_d0)
def add128 (a : IVec S1024x128 32) : IVec S1024x128 32 := addi a (concatenate S1024x128 0 [⟨S128x128, broadcast S128x128 0#32⟩, ⟨S896x128, extractStridedSlice S896x128 ![0, 0] a slices_S1024x128_o0_0_S896x128⟩] concatenates_S128x128_S896x128_S1024x128_d0)
def add256 (a : IVec S1024x128 32) : IVec S1024x128 32 := addi a (concatenate S1024x128 0 [⟨S256x128, broadcast S256x128 0#32⟩, ⟨S768x128, extractStridedSlice S768x128 ![0, 0] a slices_S1024x128_o0_0_S768x128⟩] concatenates_S256x128_S768x128_S1024x128_d0)
def add512 (a : IVec S1024x128 32) : IVec S1024x128 32 := addi a (concatenate S1024x128 0 [⟨S512x128, broadcast S512x128 0#32⟩, ⟨S512x128, extractStridedSlice S512x128 ![0, 0] a slices_S1024x128_o0_0_S512x128⟩] concatenates_S512x128_S512x128_S1024x128_d0)

theorem pay2_eq : k0_pay2 D = add32 (add16 (add8 (add4 (add2 (add1 (k0_pay1 D)))))) := rfl
theorem pay3_eq (a : IVec S1024x128 32) : k0_pay3 a = add512 (add256 (add128 (add64 a))) := rfl

theorem win_add1 {a : IVec S1024x128 32} (h : Win D 1 a) : Win D 2 (add1 a) := win_step D 1 _ rfl h fun i l => by pointwise [add1]
theorem win_add2 {a : IVec S1024x128 32} (h : Win D 2 a) : Win D 4 (add2 a) := win_step D 2 _ rfl h fun i l => by pointwise [add2]
theorem win_add4 {a : IVec S1024x128 32} (h : Win D 4 a) : Win D 8 (add4 a) := win_step D 4 _ rfl h fun i l => by pointwise [add4]
theorem win_add8 {a : IVec S1024x128 32} (h : Win D 8 a) : Win D 16 (add8 a) := win_step D 8 _ rfl h fun i l => by pointwise [add8]
theorem win_add16 {a : IVec S1024x128 32} (h : Win D 16 a) : Win D 32 (add16 a) := win_step D 16 _ rfl h fun i l => by pointwise [add16]
theorem win_add32 {a : IVec S1024x128 32} (h : Win D 32 a) : Win D 64 (add32 a) := win_step D 32 _ rfl h fun i l => by pointwise [add32]
theorem win_add64 {a : IVec S1024x128 32} (h : Win D 64 a) : Win D 128 (add64 a) := win_step D 64 _ rfl h fun i l => by pointwise [add64]
theorem win_add128 {a : IVec S1024x128 32} (h : Win D 128 a) : Win D 256 (add128 a) := win_step D 128 _ rfl h fun i l => by pointwise [add128]
theorem win_add256 {a : IVec S1024x128 32} (h : Win D 256 a) : Win D 512 (add256 a) := win_step D 256 _ rfl h fun i l => by pointwise [add256]
theorem win_add512 {a : IVec S1024x128 32} (h : Win D 512 a) : Win D 1024 (add512 a) := win_step D 512 _ rfl h fun i l => by pointwise [add512]

theorem win_all : Win D 1024 (k0_pay3 (k0_pay2 D)) := by
  rw [pay3_eq, pay2_eq]
  exact win_add512 D (win_add256 D (win_add128 D (win_add64 D (win_add32 D (win_add16 D (win_add8 D (win_add4 D (win_add2 D (win_add1 D (win_one D))))))))))

/-- The running count of the rows addressed to `l`. -/
theorem csum_at (i : Fin 1024) (l : Fin 128) : k0_pay3 (k0_pay2 D) (ix2 i l) = BitVec.ofNat 32 (cnt (col D) l.val (i.val + 1)) := by
  rw [win_all D i l, show i.val + 1 - 1024 = 0 by omega]
  unfold cnt
  rw [Nat.count_zero, Nat.sub_zero]

/-- How many rows of the block are addressed to `l`. -/
theorem cntV_at (l : Fin 128) : cntV (F := Ideal) D (ixC row7 l) = BitVec.ofNat 32 (cnt (col D) l.val 1024) := by
  have e : ixC row7 l = ix2 (7 : Fin 8) l := by funext a; fin_cases a <;> rfl
  unfold cntV
  rw [e]
  pointwise [k0_pay5]
  exact csum_at D ⟨1023, by decide⟩ l

/-- The place of a row addressed to `r`: the number of such rows before it. -/
theorem posV_at (i : Fin 1024) (r : Fin 128) (h : Goes (col D) r.val i.val) :
    posV (F := Ideal) D (ix2 i 0) = BitVec.ofNat 32 (cnt (col D) r.val i.val) := by
  unfold posV
  pointwise [k0_pay4]
  have hz : ∀ x : Fin 128, x ≠ r → IntOp.muli (k0_pay3 (k0_pay2 D) (ix2 i x)) (k0_pay1 D (ix2 i x)) = 0#32 := fun x hx => by
    have hn : ¬ Goes (col D) x.val i.val := fun g => hx (Fin.ext ((ofNat_inj (by omega) (by omega)).1 (g.symm.trans h)))
    rw [one_at, if_neg hn]
    exact BitVec.mul_zero
  rw [fold_single _ _ r hz, if_pos (Finset.mem_univ r), csum_at, one_at, if_pos h]
  unfold cnt
  rw [Nat.count_succ, if_pos h]
  show BitVec.ofNat 32 (_ + 1) * 1#32 - 1#32 = _
  rw [BitVec.mul_one, BitVec.ofNat_add, BitVec.add_sub_cancel]

/-! ## The messages -/

variable (X : Vec Ideal S1024x512 .f32)

/-- Row `p` of the rows addressed to `r`, entry `j`. -/
def msgSum (r p : ℕ) (j : Fin 512) : EReal := ∑ x ∈ Finset.range 1024, if Goes (col D) r x ∧ cnt (col D) r x = p then row X x j else 0

theorem msg_term (r : Fin 4) (p : Fin 288) (j : Fin 512) (x : Fin 1024) :
    FloatOps.sitofp (F := Ideal) .f32 (BitVec.setWidth 32 (IntOp.andi (IntOp.cmpi .eq (posV (F := Ideal) D (ix2 x 0)) (BitVec.ofNat 32 p.val))
      (IntOp.cmpi .eq (D (ix2 x 0)) (BitVec.ofNat 32 r.val)))) * X (ix2 x j)
      = if Goes (col D) r.val x.val ∧ cnt (col D) r.val x.val = p.val then row X x.val j else 0 := by
  rw [cmpi_eq_if, cmpi_eq_if, andi_if, setWidth_if, sitofp_if, row_fin]
  by_cases hg : Goes (col D) r.val x.val
  · have hD : D (ix2 x 0) = BitVec.ofNat 32 r.val := (col_fin D x).symm.trans hg
    rw [posV_at D x ⟨r.val, by omega⟩ hg]
    have hi := ofNat_inj (a := cnt (col D) r.val x.val) (b := p.val) (by have := cnt_le (col D) r.val x.val; omega) (by omega)
    by_cases hp : cnt (col D) r.val x.val = p.val
    · rw [if_pos ⟨hi.2 hp, hD⟩, if_pos ⟨hg, hp⟩]; exact one_mul _
    · rw [if_neg fun q => hp (hi.1 q.1), if_neg fun q => hp q.2]; exact zero_mul _
  · have hD : ¬ D (ix2 x 0) = BitVec.ofNat 32 r.val := fun q => hg ((col_fin D x).trans q)
    rw [if_neg fun q => hD q.2, if_neg fun q => hg q.1]
    exact zero_mul _

theorem msg_sum (r : Fin 4) (p : Fin 288) (j : Fin 512) :
    (∑ x : Fin 1024, FloatOps.sitofp (F := Ideal) .f32 (BitVec.setWidth 32 (IntOp.andi (IntOp.cmpi .eq (posV (F := Ideal) D (ix2 x 0)) (BitVec.ofNat 32 p.val))
      (IntOp.cmpi .eq (D (ix2 x 0)) (BitVec.ofNat 32 r.val)))) * X (ix2 x j)) = msgSum D X r.val p.val j := by
  unfold msgSum
  rw [Finset.sum_range]
  exact Finset.sum_congr rfl fun x _ => msg_term D X r p j x

theorem mw_eq (c : Dev nD) : mw c = BitVec.ofNat 32 c.val := by revert c; decide +kernel
theorem next0 (c : Dev nD) : nextW (mw c) 1#32 = BitVec.ofNat 32 (fwd 0 c).val := by revert c; decide +kernel
theorem next1 (c : Dev nD) : nextW (mw c) 2#32 = BitVec.ofNat 32 (fwd 1 c).val := by revert c; decide +kernel
theorem next2 (c : Dev nD) : nextW (mw c) 3#32 = BitVec.ofNat 32 (fwd 2 c).val := by revert c; decide +kernel
theorem src0 (c : Dev nD) : srcW (mw c) 1#32 = BitVec.ofNat 32 (bwd 0 c).val := by revert c; decide +kernel
theorem src1 (c : Dev nD) : srcW (mw c) 2#32 = BitVec.ofNat 32 (bwd 1 c).val := by revert c; decide +kernel
theorem src2 (c : Dev nD) : srcW (mw c) 3#32 = BitVec.ofNat 32 (bwd 2 c).val := by revert c; decide +kernel

theorem pay6_at (v : BitVec 32) (P : IVec S1024x1 32) (p : Fin 288) (j : Fin 512) : k0_pay6 v P D X (ix3 0 p j)
    = ∑ x : Fin 1024, FloatOps.sitofp (F := Ideal) .f32 (BitVec.setWidth 32 (IntOp.andi (IntOp.cmpi .eq (P (ix2 x 0)) (BitVec.ofNat 32 p.val))
      (IntOp.cmpi .eq (D (ix2 x 0)) (nextW v 1#32)))) * X (ix2 x j) := by
  pointwise [k0_pay6, nextW]
theorem pay8_at (v : BitVec 32) (P : IVec S1024x1 32) (p : Fin 288) (j : Fin 512) : k0_pay8 (k0_pay7 v P iotaP D X) (ix3 0 p j)
    = ∑ x : Fin 1024, FloatOps.sitofp (F := Ideal) .f32 (BitVec.setWidth 32 (IntOp.andi (IntOp.cmpi .eq (P (ix2 x 0)) (BitVec.ofNat 32 p.val))
      (IntOp.cmpi .eq (D (ix2 x 0)) (nextW v 2#32)))) * X (ix2 x j) := by
  pointwise [k0_pay8, k0_pay7, nextW, iotaP]
theorem pay10_at (v : BitVec 32) (P : IVec S1024x1 32) (p : Fin 288) (j : Fin 512) : k0_pay10 (k0_pay9 v P iotaP D X) (ix3 0 p j)
    = ∑ x : Fin 1024, FloatOps.sitofp (F := Ideal) .f32 (BitVec.setWidth 32 (IntOp.andi (IntOp.cmpi .eq (P (ix2 x 0)) (BitVec.ofNat 32 p.val))
      (IntOp.cmpi .eq (D (ix2 x 0)) (nextW v 3#32)))) * X (ix2 x j) := by
  pointwise [k0_pay10, k0_pay9, nextW, iotaP]
theorem pay11_at (v : BitVec 32) (P : IVec S1024x1 32) (p : Fin 288) (j : Fin 512) : k0_pay11 v P iotaP D X (ix2 p j)
    = ∑ x : Fin 1024, FloatOps.sitofp (F := Ideal) .f32 (BitVec.setWidth 32 (IntOp.andi (IntOp.cmpi .eq (P (ix2 x 0)) (BitVec.ofNat 32 p.val))
      (IntOp.cmpi .eq (D (ix2 x 0)) v))) * X (ix2 x j) := by
  pointwise [k0_pay11, iotaP]

theorem msgV_at (k : Fin 3) (c : Dev nD) (p : Fin 288) (j : Fin 512) : msgV k c D X (ix3 0 p j) = msgSum D X (fwd k c).val p.val j := by
  match k with
  | 0 => exact (pay6_at D X _ _ p j).trans (by rw [next0]; exact msg_sum D X (fwd 0 c) p j)
  | 1 => exact (pay8_at D X _ _ p j).trans (by rw [next1]; exact msg_sum D X (fwd 1 c) p j)
  | 2 => exact (pay10_at D X _ _ p j).trans (by rw [next2]; exact msg_sum D X (fwd 2 c) p j)

variable (m : (ℓ : Loc nD τ sig) → Buf (Elt Ideal) ℓ) (ρ : Dev nD → PrngReg)

theorem ownV_at (c : Dev nD) (p : Fin 288) (j : Fin 512) : ownV m ρ c (ix2 p j) = msgSum (dstg m ρ c) (xstg m ρ c) c.val p.val j := by
  unfold ownV
  refine (pay11_at _ _ _ _ p j).trans ?_
  rw [mw_eq]
  exact msg_sum _ _ c p j

theorem gotV_at (k : Fin 3) (c : Dev nD) (p : Fin 288) (j : Fin 512) :
    gotV m ρ k c (ix2 p j) = msgSum (dstg m ρ (bwd k c)) (xstg m ρ (bwd k c)) c.val p.val j := by
  have h : gotV m ρ k c (ix2 p j) = msgV k (bwd k c) (dstg m ρ (bwd k c)) (xstg m ρ (bwd k c)) (ix3 0 p j) := by
    unfold gotV
    generalize msgV k (bwd k c) (dstg m ρ (bwd k c)) (xstg m ρ (bwd k c)) = M
    pointwise [k0_pay14]
  rw [h, msgV_at, fwd_bwd]

/-! ## The places in the result -/

/-- The rows that come before source `s`'s. -/
def before (c0 c1 c2 s : ℕ) : ℕ := (if 0 < s then c0 else 0) + (if 1 < s then c1 else 0) + (if 2 < s then c2 else 0)

theorem hot_raw (n0 n1 n2 n3 w : BitVec 32) (t : Fin 1024) (p : Fin 288) : hotV (F := Ideal) n0 n1 n2 n3 w (ix2 t p)
    = BitVec.setWidth 32 (IntOp.cmpi .eq (BitVec.ofNat 32 t.val) (Scalar.select (IntOp.cmpi .slt (BitVec.ofNat 32 p.val) (Scalar.addi (selA n0 n1 n2 w) (selB n3 w)))
        (IntOp.addi (Scalar.addi (Scalar.addi (selC (Scalar.addi 0#32 n0) w) (Scalar.select (Scalar.cmpi .eq w 2#32) (Scalar.addi (Scalar.addi 0#32 n0) n1) 0#32))
          (Scalar.select (Scalar.cmpi .eq w 3#32) (Scalar.addi (Scalar.addi (Scalar.addi 0#32 n0) n1) n2) 0#32)) (BitVec.ofNat 32 p.val)) 2048#32)) := by
  pointwise [hotV, k0_pay19, iotaT, iotaL, selA, selB, selC]

theorem count_word (n0 n1 n2 n3 : BitVec 32) (s : Fin 4) :
    Scalar.addi (selA n0 n1 n2 (BitVec.ofNat 32 s.val)) (selB n3 (BitVec.ofNat 32 s.val)) = ![n0, n1, n2, n3] s := by
  unfold selA selB Scalar.addi Scalar.muli Scalar.select Scalar.cmpi IntOp.addi IntOp.muli IntOp.cmpi
  fin_cases s <;> simp

theorem start_word (n0 n1 n2 : BitVec 32) (s : Fin 4) :
    Scalar.addi (Scalar.addi (selC (Scalar.addi 0#32 n0) (BitVec.ofNat 32 s.val)) (Scalar.select (Scalar.cmpi .eq (BitVec.ofNat 32 s.val) 2#32) (Scalar.addi (Scalar.addi 0#32 n0) n1) 0#32))
      (Scalar.select (Scalar.cmpi .eq (BitVec.ofNat 32 s.val) 3#32) (Scalar.addi (Scalar.addi (Scalar.addi 0#32 n0) n1) n2) 0#32) = ![0#32, n0, n0 + n1, n0 + n1 + n2] s := by
  unfold selC Scalar.addi Scalar.muli Scalar.select Scalar.cmpi IntOp.addi IntOp.muli IntOp.cmpi
  fin_cases s <;> simp

theorem hot_at (c0 c1 c2 c3 : ℕ) (h0 : c0 ≤ 1024) (h1 : c1 ≤ 1024) (h2 : c2 ≤ 1024) (h3 : c3 ≤ 1024) (s : Fin 4) (t : Fin 1024) (p : Fin 288) :
    hotV (F := Ideal) (BitVec.ofNat 32 c0) (BitVec.ofNat 32 c1) (BitVec.ofNat 32 c2) (BitVec.ofNat 32 c3) (BitVec.ofNat 32 s.val) (ix2 t p)
      = if p.val < ![c0, c1, c2, c3] s ∧ ![0, c0, c0 + c1, c0 + c1 + c2] s + p.val = t.val then 1#32 else 0#32 := by
  rw [hot_raw, count_word, start_word]
  have e1 : ![BitVec.ofNat 32 c0, BitVec.ofNat 32 c1, BitVec.ofNat 32 c2, BitVec.ofNat 32 c3] s = BitVec.ofNat 32 (![c0, c1, c2, c3] s) := by fin_cases s <;> rfl
  have e2 : ![0#32, BitVec.ofNat 32 c0, BitVec.ofNat 32 c0 + BitVec.ofNat 32 c1, BitVec.ofNat 32 c0 + BitVec.ofNat 32 c1 + BitVec.ofNat 32 c2] s
      = BitVec.ofNat 32 (![0, c0, c0 + c1, c0 + c1 + c2] s) := by
    fin_cases s
    · rfl
    · rfl
    · exact (BitVec.ofNat_add _ _).symm
    · show _ = BitVec.ofNat 32 (c0 + c1 + c2)
      rw [BitVec.ofNat_add, BitVec.ofNat_add]
      rfl
  have b1 : ![c0, c1, c2, c3] s ≤ 1024 := by fin_cases s <;> assumption
  have b2 : ![0, c0, c0 + c1, c0 + c1 + c2] s ≤ 3072 := by
    fin_cases s
    · show 0 ≤ 3072; omega
    · show c0 ≤ 3072; omega
    · show c0 + c1 ≤ 3072; omega
    · show c0 + c1 + c2 ≤ 3072; omega
  rw [e1, e2]
  generalize ![c0, c1, c2, c3] s = a at *
  generalize ![0, c0, c0 + c1, c0 + c1 + c2] s = b at *
  rw [cmpi_slt_if _ _ (by omega) (by omega), select_if, addi_ofNat]
  have e3 : (if p.val < a then BitVec.ofNat 32 (b + p.val) else 2048#32) = BitVec.ofNat 32 (if p.val < a then b + p.val else 2048) := by split <;> rfl
  rw [e3, cmpi_eq_if, setWidth_if]
  refine if_congr ((ofNat_inj (by omega) (by split <;> omega)).trans ?_) rfl rfl
  have := t.isLt
  constructor
  · intro q
    by_cases hp : p.val < a
    · rw [if_pos hp] at q; exact ⟨hp, q.symm⟩
    · rw [if_neg hp] at q; omega
  · rintro ⟨hp, q⟩
    rw [if_pos hp]; exact q.symm

theorem term_at (h : IVec S1024x288 32) (M : FVec Ideal S288x512 .f32) (t : Fin 1024) (j : Fin 512) :
    termV h M (ix2 t j) = ∑ x : Fin 288, FloatOps.sitofp (F := Ideal) .f32 (h (ix2 t x)) * M (ix2 x j) := by
  pointwise [termV]

end Cert.KernelIdealProof
-- ==== Proof.Result.lean ====
/- The kernel's result, entry by entry, as one sum over the rows of all the devices. -/
module

public import proofs.«01_k».proof.Proof.Values

@[expose] public section

noncomputable section

namespace Cert.KernelIdealProof

open Cert.KernelIdeal Cert.KernelIdeal.Gen Cert.Counting
open Idealize.ShloMosaic
open scoped BigOperators

variable (m : (ℓ : Loc nD τ sig) → Buf (Elt Ideal) ℓ) (ρ : Dev nD → PrngReg)

theorem cntAt_eq (s c : Dev nD) : cntAt (F := Ideal) m ρ s c = BitVec.ofNat 32 (cnt (col (dstg m ρ s)) c.val 1024) := cntV_at _ (lane c)

/-- Four sums of one another, by their index. -/
theorem sums4 (a b c : ℕ) (f : Fin 4 → ℕ) (h0 : f 0 = 0) (h1 : f 1 = a) (h2 : f 2 = a + b) (h3 : f 3 = a + b + c) (s : Fin 4) :
    ![0, a, a + b, a + b + c] s = f s := by
  fin_cases s
  · exact h0.symm
  · exact h1.symm
  · exact h2.symm
  · exact h3.symm

theorem vec4 (g : Fin 4 → ℕ) (s : Fin 4) : ![g 0, g 1, g 2, g 3] s = g s := by fin_cases s <;> rfl

section
variable (d : ℕ → BitVec 32) (x : ℕ → Fin 512 → EReal)
  (hd : ∀ (s : Dev nD) (i : ℕ), i < 1024 → col (dstg m ρ s) i = d (1024 * s.val + i))
  (hx : ∀ (s : Dev nD) (i : ℕ) (j : Fin 512), i < 1024 → row (xstg m ρ s) i j = x (1024 * s.val + i) j)
include hd

theorem cnt_upto (s : Dev nD) (r n : ℕ) (hn : n ≤ 1024) : cnt d r (1024 * s.val + n) = cnt d r (1024 * s.val) + cnt (col (dstg m ρ s)) r n :=
  cnt_block d _ r _ n fun i hi => hd s i (by omega)

theorem before_eq (s c : Dev nD) :
    ![0, cnt (col (dstg m ρ 0)) c.val 1024, cnt (col (dstg m ρ 0)) c.val 1024 + cnt (col (dstg m ρ 1)) c.val 1024,
      cnt (col (dstg m ρ 0)) c.val 1024 + cnt (col (dstg m ρ 1)) c.val 1024 + cnt (col (dstg m ρ 2)) c.val 1024] s = cnt d c.val (1024 * s.val) := by
  have e0 := cnt_upto m ρ d hd 0 c.val 1024 le_rfl
  have e1 := cnt_upto m ρ d hd 1 c.val 1024 le_rfl
  have e2 := cnt_upto m ρ d hd 2 c.val 1024 le_rfl
  have z : cnt d c.val (1024 * (0 : Dev nD).val) = 0 := Nat.count_zero _
  have k1 : 1024 * (1 : Dev nD).val = 1024 * (0 : Dev nD).val + 1024 := rfl
  have k2 : 1024 * (2 : Dev nD).val = 1024 * (1 : Dev nD).val + 1024 := rfl
  have k3 : 1024 * (3 : Dev nD).val = 1024 * (2 : Dev nD).val + 1024 := rfl
  rw [z, Nat.zero_add, ← k1] at e0
  rw [e0, ← k2] at e1
  rw [e1, ← k3] at e2
  exact sums4 _ _ _ (fun s : Dev nD => cnt d c.val (1024 * s.val)) z e0 e1 e2 s

include hx

/-- What one source contributes to an entry. -/
def part (c s : Dev nD) (t : ℕ) (j : Fin 512) : EReal :=
  ∑ i ∈ Finset.range 1024, if Goes d c.val (1024 * s.val + i) ∧ cnt d c.val (1024 * s.val + i) = t then x (1024 * s.val + i) j else 0

theorem term_part (c s : Dev nD) (hfit : cnt (col (dstg m ρ s)) c.val 1024 ≤ 288) (M : FVec Ideal S288x512 .f32)
    (hM : ∀ (p : Fin 288) (j : Fin 512), M (ix2 p j) = msgSum (dstg m ρ s) (xstg m ρ s) c.val p.val j) (t : Fin 1024) (j : Fin 512) :
    termV (hotAt m ρ c (BitVec.ofNat 32 s.val)) M (ix2 t j) = part d x c s t.val j := by
  refine (term_at _ _ t j).trans ?_
  have h1 : ∀ p : Fin 288, FloatOps.sitofp (F := Ideal) .f32 (hotAt m ρ c (BitVec.ofNat 32 s.val) (ix2 t p)) * M (ix2 p j)
      = (if p.val < Nat.count (Goes (col (dstg m ρ s)) c.val) 1024 ∧ cnt d c.val (1024 * s.val) + p.val = t.val then (1 : EReal) else 0)
        * ∑ i ∈ Finset.range 1024, if Goes (col (dstg m ρ s)) c.val i ∧ Nat.count (Goes (col (dstg m ρ s)) c.val) i = p.val then row (xstg m ρ s) i j else 0 := fun p => by
    rw [hM]
    unfold hotAt
    rw [cntAt_eq, cntAt_eq, cntAt_eq, cntAt_eq, hot_at _ _ _ _ (cnt_le _ _ _) (cnt_le _ _ _) (cnt_le _ _ _) (cnt_le _ _ _) s t p, before_eq m ρ d hd s c]
    have e : ![cnt (col (dstg m ρ 0)) c.val 1024, cnt (col (dstg m ρ 1)) c.val 1024, cnt (col (dstg m ρ 2)) c.val 1024, cnt (col (dstg m ρ 3)) c.val 1024] s
        = cnt (col (dstg m ρ s)) c.val 1024 := vec4 (fun s => cnt (col (dstg m ρ s)) c.val 1024) s
    rw [e, sitofp_if]
    rfl
  refine (Finset.sum_congr rfl fun p _ => h1 p).trans ?_
  refine (place_sum (Goes (col (dstg m ρ s)) c.val) (fun i => row (xstg m ρ s) i j) (cnt d c.val (1024 * s.val)) t.val 1024 288 hfit).trans ?_
  unfold part
  refine Finset.sum_congr rfl fun i hi => ?_
  have hi' := Finset.mem_range.1 hi
  have hg : Goes (col (dstg m ρ s)) c.val i ↔ Goes d c.val (1024 * s.val + i) := by
    show col (dstg m ρ s) i = _ ↔ d _ = _
    rw [hd s i hi']
  refine if_congr (and_congr hg ?_) (hx s i j hi') rfl
  rw [cnt_upto m ρ d hd s c.val i (by omega)]

theorem out_at (c : Dev nD) (hfit : ∀ s : Dev nD, cnt (col (dstg m ρ s)) c.val 1024 ≤ 288) (t : Fin 1024) (j : Fin 512) :
    outAt m ρ c (ix2 t j) = ∑ n ∈ Finset.range 4096, if Goes d c.val n ∧ cnt d c.val n = t.val then x n j else 0 := by
  have e : outAt m ρ c (ix2 t j) = ((termV (hotAt m ρ c (mw c)) (ownV m ρ c) (ix2 t j) + termV (hotAt m ρ c (srcW (mw c) 1#32)) (gotV m ρ 0 c) (ix2 t j))
      + termV (hotAt m ρ c (srcW (mw c) 2#32)) (gotV m ρ 1 c) (ix2 t j)) + termV (hotAt m ρ c (srcW (mw c) 3#32)) (gotV m ρ 2 c) (ix2 t j) := rfl
  rw [e, src0, src1, src2, mw_eq,
    term_part m ρ d x hd hx c c (hfit c) _ (ownV_at m ρ c) t j,
    term_part m ρ d x hd hx c (bwd 0 c) (hfit _) _ (gotV_at m ρ 0 c) t j,
    term_part m ρ d x hd hx c (bwd 1 c) (hfit _) _ (gotV_at m ρ 1 c) t j,
    term_part m ρ d x hd hx c (bwd 2 c) (hfit _) _ (gotV_at m ρ 2 c) t j,
    sum_blocks]
  have hs : ∀ B : Dev nD → EReal, ((B c + B (bwd 0 c)) + B (bwd 1 c)) + B (bwd 2 c) = ((B 0 + B 1) + B 2) + B 3 := fun B => by
    fin_cases c
    · show B 0 + B 3 + B 2 + B 1 = _; ac_rfl
    · show B 1 + B 0 + B 3 + B 2 = _; ac_rfl
    · show B 2 + B 1 + B 0 + B 3 = _; ac_rfl
    · show B 3 + B 2 + B 1 + B 0 = _; ac_rfl
  exact hs fun s => part d x c s t.val j

end

end Cert.KernelIdealProof
-- ==== Proof.Ragged.lean ====
/- What the reference computes, entry by entry: row `1024 r + t` of its result is the row of `x` that is addressed to `r` and
   has `t` such rows before it, where there is one, and zero where there is none. -/
module

public import proofs.«01_k».proof.Proof.Columns
public import proofs.«01_k».proof.Proof.Gen.RaggedIdeal.Run
public import Idealize.ShloMosaic.Lib.Routing.OpsSearch

@[expose] public section

noncomputable section

namespace Cert.RaggedRead

open Cert.RaggedIdeal Cert.RaggedIdeal.Gen Cert.Counting Cert.Sorting Cert.Columns
open Idealize.ShloMosaic
open scoped BigOperators

variable (X : FVec Ideal S4096x512 .f32) (D : IVec S4096x1 32)

/-! ## The reference, operation by operation -/

/-- The destinations as a vector. -/
def dV : IVec S4096 32 := shapeCast _ D shapeCasts_S4096x1_S4096
/-- The positions in the order of their destinations. -/
def orderV : IVec S4096 32 := (Host.sort2 S4096 0 comparator_i32_i32_d0 (dV D) (iotaInDim S4096 32 0)).2
/-- The destinations beside every rank. -/
def dcol : IVec S4096x4 32 := broadcastInDim S4096x4 ![0, 1] bcast_S4096x1_S4096x4_0_1 (broadcastInDim S4096x1 ![0] bcast_S4096_S4096x1_0 (dV D))
/-- The ranks beside every row. -/
def ranks : IVec S4096x4 32 := broadcastInDim S4096x4 ![0, 1] bcast_S1x4_S4096x4_0_1 (broadcastInDim S1x4 ![1] bcast_S4_S1x4_1 (iotaInDim S4 32 0))
/-- The rows addressed to each rank, counted. -/
def countV : IVec S4 32 := Host.reduce IntOp.addi (extui 32 (cmpi .eq (dcol D) ranks) natLt_1_32) (constantI S_ 32 0#32) reducesTo_S4096x4_S4_d0 h_S_
/-- The rows addressed below each rank, counted. -/
def startV : IVec S4 32 := Host.reduce IntOp.addi (extui 32 (cmpi .slt (dcol D) ranks) natLt_1_32) (constantI S_ 32 0#32) reducesTo_S4096x4_S4_d0 h_S_
/-- The places of a rank. -/
def tV : IVec S4x1024 32 := broadcastInDim S4x1024 ![0, 1] bcast_S1x1024_S4x1024_0_1 (broadcastInDim S1x1024 ![1] bcast_S1024_S1x1024_1 (iotaInDim S1024 32 0))
/-- A number per rank beside every place. -/
def over (a : IVec S4 32) : IVec S4x1024 32 := broadcastInDim S4x1024 ![0, 1] bcast_S4x1_S4x1024_0_1 (broadcastInDim S4x1 ![0] bcast_S4_S4x1_0 a)
/-- The places that hold a row. -/
def heldV : IVec S4x1024 1 := cmpi .slt tV (over (countV D))
/-- Where the row of each place stands in the order. -/
def placeV : IVec S4096 32 :=
  shapeCast _ (select (heldV D) (addi (over (startV D)) tV) (broadcastInDim S4x1024 ![] bcast_S_S4x1024 (id (constantI S_ 32 0#32)))) shapeCasts_S4x1024_S4096
/-- A negative index counts from the end. -/
def fixV (p : IVec S4096 32) : IVec S4096x1 32 :=
  broadcastInDim S4096x1 ![0] bcast_S4096_S4096x1_0 (select (cmpi .slt p (broadcastInDim S4096 ![] bcast_S_S4096 (constantI S_ 32 0#32))) (addi p (broadcastInDim S4096 ![] bcast_S_S4096 (constantI S_ 32 4096#32))) p)
/-- The row of each place. -/
def pickV : IVec S4096 32 := Host.gather gather_S4096_S4096x1_S4096_n_0_n_n_0_1_1 (orderV D) (fixV (placeV D))
/-- The reference's result. -/
def raggedV : FVec Ideal S4096x512 .f32 :=
  select (broadcastInDim S4096x512 ![0, 1] bcast_S4096x1_S4096x512_0_1 (broadcastInDim S4096x1 ![0] bcast_S4096_S4096x1_0 (shapeCast _ (heldV D) shapeCasts_S4x1024_S4096)))
    (Host.gather gather_S4096x512_S4096x1_S4096x512_1_0_n_n_0_1_1512 X (fixV (pickV D))) (broadcastInDim S4096x512 ![] bcast_S_S4096x512 (id (constant S_ .f32 0x00000000#32)))

/-- That is the reference's composed term. -/
theorem res_eq (m : (ℓ : Loc nD τ sig) → Buf (Elt Ideal) ℓ) (c : Dev nD) :
    Value.res_main_v46 m c = raggedV (m ((c.tc : Thread nD τ).loc main_arg0)) (m ((c.tc : Thread nD τ).loc main_arg1)) := by
  unfold Value.res_main_v46
  rfl

/-! ## Its reads -/

theorem dV_at (i : Fin 4096) : dV D (ix1 i) = col D i.val := by
  pointwise [dV]
  exact (col_fin D i).symm

theorem dcol_at (i : Fin 4096) (r : Fin 4) : dcol D (ix2 i r) = col D i.val := by
  pointwise [dcol]
  exact dV_at D i

theorem ranks_at (i : Fin 4096) (r : Fin 4) : ranks (ix2 i r) = BitVec.ofNat 32 r.val := by
  pointwise [ranks]

theorem countV_at (r : Fin 4) : countV D (ix1 r) = BitVec.ofNat 32 (cnt (col D) r.val 4096) :=
  count_rows_4096 _ _ _ _ r (Goes (col D) r.val) fun i => by
    show IntOp.cmpi .eq (dcol D (ix2 i r)) (ranks (ix2 i r)) = _
    rw [dcol_at, ranks_at, cmpi_eq_if]
    rfl

theorem startV_at (r : Fin 4) : startV D (ix1 r) = BitVec.ofNat 32 (below (col D) r.val 4096) :=
  count_rows_4096 _ _ _ _ r (fun b => (col D b).toInt < (r.val : ℤ)) fun i => by
    show IntOp.cmpi .slt (dcol D (ix2 i r)) (ranks (ix2 i r)) = _
    rw [dcol_at, ranks_at, slt_rank _ _ (by omega)]

theorem tV_at (r : Fin 4) (t : Fin 1024) : tV (ix2 r t) = BitVec.ofNat 32 t.val := by
  pointwise [tV]

theorem over_at (a : IVec S4 32) (r : Fin 4) (t : Fin 1024) : over a (ix2 r t) = a (ix1 r) := by
  pointwise [over]

theorem heldV_at (r : Fin 4) (t : Fin 1024) : heldV D (ix2 r t) = if t.val < cnt (col D) r.val 4096 then 1#1 else 0#1 := by
  show IntOp.cmpi .slt (tV (ix2 r t)) (over (countV D) (ix2 r t)) = _
  rw [tV_at, over_at, countV_at, cmpi_slt_if _ _ (by omega) (lt_of_le_of_lt (cnt_le _ _ _) (by decide))]

theorem fixV_at (p : IVec S4096 32) (q : Fin 4096) (n : ℕ) (hn : n < 4096) (h : p (ix1 q) = BitVec.ofNat 32 n) : fixV p (ix2 q 0) = BitVec.ofNat 32 n := by
  pointwise [fixV]
  rw [h, show (0#32 : BitVec 32) = BitVec.ofNat 32 0 from rfl, cmpi_slt_if _ _ (by omega) (by decide), if_neg (Nat.not_lt_zero _)]
  rfl

/-- The place of a rank's row `t`. -/
theorem placeV_at (q : Fin 4096) (ht : q.val % 1024 < cnt (col D) (q.val / 1024) 4096) :
    placeV D (ix1 q) = BitVec.ofNat 32 (below (col D) (q.val / 1024) 4096 + q.val % 1024) := by
  pointwise [placeV]
  rw [heldV_at, if_pos ht, over_at, tV_at, startV_at]
  exact addi_ofNat _ _

theorem orderV_at (r n : ℕ) (hn : n < 4096) (hr : r < 2 ^ 31) (hg : Goes (col D) r n) :
    ∃ h : below (col D) r 4096 + cnt (col D) r n < 4096, orderV D (ix1 ⟨_, h⟩) = BitVec.ofNat 32 n := by
  obtain ⟨h, hh⟩ := sort2_at 4096 (by decide) comparator_i32_i32_d0 (fun _ _ => rfl) (dV D) (iotaInDim S4096 32 0) (col D) (dV_at D) r n hn hr hg
  refine ⟨h, hh.trans ?_⟩
  pointwise

theorem raggedV_at (q : Fin 4096) (j : Fin 512) :
    raggedV X D (ix2 q j) = ∑ n ∈ Finset.range 4096, if Goes (col D) (q.val / 1024) n ∧ cnt (col D) (q.val / 1024) n = q.val % 1024 then row X n j else 0 := by
  pointwise [raggedV]
  rw [heldV_at]
  by_cases ht : q.val % 1024 < cnt (col D) (q.val / 1024) 4096
  · obtain ⟨n, hn, hg, hc⟩ := exists_at (Goes (col D) (q.val / 1024)) 4096 (q.val % 1024) ht
    rw [if_pos ht]
    obtain ⟨h, ho⟩ := orderV_at D (q.val / 1024) n hn (by omega) hg
    have hk : below (col D) (q.val / 1024) 4096 + q.val % 1024 < 4096 := by rw [← hc]; exact h
    have h1 := placeV_at D q ht
    have h2 := fixV_at (placeV D) q _ hk h1
    have h3 : pickV D (ix1 q) = BitVec.ofNat 32 n := by
      refine (Routing.take_ap _ rfl rfl rfl rfl (orderV D) (fixV (placeV D)) q hk (by omega) h2).trans (Eq.trans ?_ ho)
      exact congrArg (fun k : Fin 4096 => orderV D (ix1 k)) (Fin.ext (by show _ + q.val % 1024 = _; rw [← hc]))
    have h4 := fixV_at (pickV D) q n hn h3
    refine (Routing.gather_row _ rfl rfl rfl rfl rfl X (fixV (pickV D)) q j ⟨n, hn⟩ h4 (by decide)).trans ?_
    refine (row_fin X ⟨n, hn⟩ j).symm.trans ?_
    rw [← hc]
    exact (sum_at (Goes (col D) (q.val / 1024)) (fun n => row X n j) 4096 n hn hg).symm
  · rw [if_neg ht]
    refine Eq.trans ?_ (sum_none (Goes (col D) (q.val / 1024)) (fun n => row X n j) 4096 _ (Nat.le_of_not_lt ht)).symm
    show constant (F := Ideal) S_ .f32 0x00000000#32 ix0 = 0
    pointwise

end Cert.RaggedRead

end
-- ==== Proof.Literal.lean ====
/- What the sort reference computes where the destinations are balanced: row `1024 r + t` of its result is the row of `x` that is
   addressed to `r` and has `t` such rows before it. -/
module

public import proofs.«01_k».proof.Proof.Columns
public import proofs.«01_k».proof.Proof.Gen.ReferenceIdeal.Run
public import Idealize.ShloMosaic.Lib.Routing.OpsSearch

@[expose] public section

noncomputable section

namespace Cert.LiteralRead

open Cert.ReferenceIdeal Cert.ReferenceIdeal.Gen Cert.Counting Cert.Sorting Cert.Columns
open Idealize.ShloMosaic
open scoped BigOperators

variable (X : FVec Ideal S4096x512 .f32) (D : IVec S4096x1 32)

/-! ## The reference, operation by operation -/

/-- The destinations as a vector. -/
def dV : IVec S4096 32 := shapeCast _ D shapeCasts_S4096x1_S4096
/-- The positions in the order of their destinations. -/
def orderV : IVec S4096 32 := (Host.sort2 S4096 0 comparator_i32_i32_d0 (dV D) (iotaInDim S4096 32 0)).2
/-- A negative index counts from the end. -/
def fixV (p : IVec S4096 32) : IVec S4096x1 32 :=
  broadcastInDim S4096x1 ![0] bcast_S4096_S4096x1_0 (select (cmpi .slt p (broadcastInDim S4096 ![] bcast_S_S4096 (constantI S_ 32 0#32))) (addi p (broadcastInDim S4096 ![] bcast_S_S4096 (constantI S_ 32 4096#32))) p)
/-- The reference's result. -/
def literalV : FVec Ideal S4096x512 .f32 := Host.gather gather_S4096x512_S4096x1_S4096x512_1_0_n_n_0_1_1512 X (fixV (orderV D))

/-! ## Its reads -/

theorem dV_at (i : Fin 4096) : dV D (ix1 i) = col D i.val := by
  pointwise [dV]
  exact (col_fin D i).symm

theorem fixV_at (p : IVec S4096 32) (q : Fin 4096) (n : ℕ) (hn : n < 4096) (h : p (ix1 q) = BitVec.ofNat 32 n) : fixV p (ix2 q 0) = BitVec.ofNat 32 n := by
  pointwise [fixV]
  rw [h, show (0#32 : BitVec 32) = BitVec.ofNat 32 0 from rfl, cmpi_slt_if _ _ (by omega) (by decide), if_neg (Nat.not_lt_zero _)]
  rfl

theorem orderV_at (r n : ℕ) (hn : n < 4096) (hr : r < 2 ^ 31) (hg : Goes (col D) r n) :
    ∃ h : below (col D) r 4096 + cnt (col D) r n < 4096, orderV D (ix1 ⟨_, h⟩) = BitVec.ofNat 32 n := by
  obtain ⟨h, hh⟩ := sort2_at 4096 (by decide) comparator_i32_i32_d0 (fun _ _ => rfl) (dV D) (iotaInDim S4096 32 0) (col D) (dV_at D) r n hn hr hg
  refine ⟨h, hh.trans ?_⟩
  pointwise

/-- Balanced destinations are sorted into four equal parts. -/
theorem below_balanced (d : ℕ → BitVec 32) (h : ∀ r, r < 4 → cnt d r 4096 = 1024) : ∀ r, r < 4 → below d r 4096 = 1024 * r := by
  have hs : ∀ r : ℕ, below d (r + 1) 4096 = below d r 4096 + Nat.count (fun b => (d b).toInt = (r : ℤ)) 4096 := fun r => by
    unfold below
    rw [← count_or _ _ (fun b h1 h2 => by omega)]
    exact Routing.count_congr_of_lt _ fun b _ => by push_cast; omega
  have hc : ∀ r : ℕ, r < 4 → Nat.count (fun b => (d b).toInt = (r : ℤ)) 4096 = 1024 := fun r hr => by
    rw [← h r hr]
    refine Routing.count_congr_of_lt _ fun b _ => ?_
    have e : (BitVec.ofNat 32 r).toInt = (r : ℤ) := StableHlo.Predicate.toInt_ofNat_small _ (by omega)
    rw [← e]
    exact BitVec.toInt_inj
  have hk : ∀ k : ℕ, k ≤ 4 → below d k 4096 = below d 0 4096 + 1024 * k := fun k => by
    induction k with
    | zero => intro _; omega
    | succ k ih =>
      intro hk
      rw [hs k, hc k (by omega), ih (by omega)]
      omega
  have h4 : below d 4 4096 ≤ 4096 := Nat.count_le _
  rw [hk 4 (le_refl _)] at h4
  intro r hr
  rw [hk r (by omega)]
  omega

theorem literalV_at (hb : ∀ r : Fin 4, cnt (col D) r.val 4096 = 1024) (q : Fin 4096) (j : Fin 512) :
    literalV X D (ix2 q j) = ∑ n ∈ Finset.range 4096, if Goes (col D) (q.val / 1024) n ∧ cnt (col D) (q.val / 1024) n = q.val % 1024 then row X n j else 0 := by
  have hr : q.val / 1024 < 4 := by omega
  have hb' : ∀ r, r < 4 → cnt (col D) r 4096 = 1024 := fun r h => hb ⟨r, h⟩
  obtain ⟨n, hn, hg, hc⟩ := exists_at (Goes (col D) (q.val / 1024)) 4096 (q.val % 1024) (lt_of_lt_of_eq (Nat.mod_lt _ (by decide)) (hb' _ hr).symm)
  obtain ⟨h, ho⟩ := orderV_at D (q.val / 1024) n hn (by omega) hg
  have hk : (⟨below (col D) (q.val / 1024) 4096 + cnt (col D) (q.val / 1024) n, h⟩ : Fin 4096) = q := Fin.ext (by
    show below (col D) (q.val / 1024) 4096 + cnt (col D) (q.val / 1024) n = q.val
    rw [below_balanced _ hb' _ hr, show cnt (col D) (q.val / 1024) n = q.val % 1024 from hc]
    omega)
  rw [hk] at ho
  refine (Routing.gather_row _ rfl rfl rfl rfl rfl X (fixV (orderV D)) q j ⟨n, hn⟩ (fixV_at _ q n hn ho) (by decide)).trans ?_
  refine (row_fin X ⟨n, hn⟩ j).symm.trans ?_
  rw [← hc]
  exact (sum_at (Goes (col D) (q.val / 1024)) (fun n => row X n j) 4096 n hn hg).symm

end Cert.LiteralRead

end
-- ==== Proof.Agree.lean ====
/- The kernel's result beside the references': both are the rows of `x`, each at the place its destination gives it. -/
module

public import proofs.«01_k».proof.Proof.Staged
public import proofs.«01_k».proof.Proof.Result
public import proofs.«01_k».proof.Proof.Pre
public import proofs.«01_k».proof.Proof.Ragged
public import proofs.«01_k».proof.Proof.Literal
public import proofs.«01_k».proof.Proof.Frames

@[expose] public section

noncomputable section

namespace Cert.Agree

open Idealize.ShloMosaic Idealize.ShloMosaic.TcCoe Idealize.SL.Sem Cert.Counting
open scoped BigOperators

/-- The whole result: row `1024 r + t` is the row addressed to `r` that has `t` such rows before it, zero where there is none. -/
def sent (X : FVec Ideal ⟨2, ![4096, 512]⟩ .f32) (D : IVec ⟨2, ![4096, 1]⟩ 32) : FVec Ideal ⟨2, ![4096, 512]⟩ .f32 := fun i =>
  ∑ n ∈ Finset.range 4096, if Goes (col D) ((i 0).val / 1024) n ∧ cnt (col D) ((i 0).val / 1024) n = (i 0).val % 1024 then row X n (i 1) else 0

/-! ## Blocks -/

theorem block_at {α : Type} {W : ℕ} (h : Layout.Tiles ⟨2, ![1024, W]⟩ ⟨2, ![4096, W]⟩ 0 4) (c : Fin 4) (v : (⟨2, ![4096, W]⟩ : Shape).Idx → α) (i : Fin 1024) (j : Fin W) :
    Layout.block ⟨2, ![1024, W]⟩ ⟨2, ![4096, W]⟩ 0 4 c v h (ix2 i j) = v (ix2 ⟨1024 * c.val + i.val, by omega⟩ j) := by
  refine congrArg v (funext fun a => Fin.ext ?_)
  match a with
  | ⟨0, _⟩ => exact (Layout.idx_rows_val h c (ix2 i j)).1.trans (by show c.val * 1024 + i.val = 1024 * c.val + i.val; omega)
  | ⟨1, _⟩ => exact (Layout.idx_rows_val h c (ix2 i j)).2

theorem col_block (D : IVec ⟨2, ![4096, 1]⟩ 32) (c : Fin 4) (i : ℕ) (hi : i < 1024) :
    col (Layout.block ⟨2, ![1024, 1]⟩ ⟨2, ![4096, 1]⟩ 0 4 c D) i = col D (1024 * c.val + i) := by
  unfold col
  rw [dif_pos hi, dif_pos (show 1024 * c.val + i < 4096 by omega)]
  exact block_at _ c D ⟨i, hi⟩ 0

theorem row_block (X : FVec Ideal ⟨2, ![4096, 512]⟩ .f32) (c : Fin 4) (i : ℕ) (hi : i < 1024) (j : Fin 512) :
    row (Layout.block ⟨2, ![1024, 512]⟩ ⟨2, ![4096, 512]⟩ 0 4 c X) i j = row X (1024 * c.val + i) j := by
  unfold row
  rw [dif_pos hi, dif_pos (show 1024 * c.val + i < 4096 by omega)]
  exact block_at _ c X ⟨i, hi⟩ j

/-! ## The kernel -/

section Kernel
open Cert.KernelIdeal

variable (m : (ℓ : Loc nD τ sig) → Buf (Elt Ideal) ℓ) (ρ : Dev nD → PrngReg)
variable (X : FVec Ideal ⟨2, ![4096, 512]⟩ .f32) (D : IVec ⟨2, ![4096, 1]⟩ 32)

theorem kernel_out (hfit : Cert.Pre_KernelIdeal_fits_KernelIdeal m)
    (hX : ∀ c : Dev nD, m ((c.tc : Thread nD τ).loc main_arg0) = Layout.block ⟨2, ![1024, 512]⟩ ⟨2, ![4096, 512]⟩ 0 4 c X)
    (hD : ∀ c : Dev nD, m ((c.tc : Thread nD τ).loc main_arg1) = Layout.block ⟨2, ![1024, 1]⟩ ⟨2, ![4096, 1]⟩ 0 4 c D) (c : Dev nD) :
    Cert.KernelIdealProof.finalA m ρ c (2 : Fin 3) = Layout.block ⟨2, ![1024, 512]⟩ ⟨2, ![4096, 512]⟩ 0 4 c (sent X D) := by
  rw [Cert.KernelIdealProof.final_o]
  funext i
  obtain ⟨t, j, rfl⟩ : ∃ (t : Fin 1024) (j : Fin 512), i = ix2 t j := ⟨i 0, i 1, eq_ix2 i⟩
  refine (Cert.KernelIdealProof.out_at m ρ (col D) (row X) (fun s i hi => ?_) (fun s i j hi => ?_) c (fun s => ?_) t j).trans ?_
  · rw [Cert.KernelIdealProof.dstg_eq, hD s]
    exact col_block D s i hi
  · rw [Cert.KernelIdealProof.xstg_eq, hX s]
    exact row_block X s i hi j
  · rw [Cert.KernelIdealProof.dstg_eq]
    exact Cert.Pre.fits_at _ _ (hfit s) c
  · refine Eq.trans ?_ (block_at _ c (sent X D) t j).symm
    have e1 : (1024 * c.val + t.val) / 1024 = c.val := by omega
    have e2 : (1024 * c.val + t.val) % 1024 = t.val := by omega
    show _ = ∑ n ∈ Finset.range 4096, if Goes (col D) ((1024 * c.val + t.val) / 1024) n ∧ cnt (col D) ((1024 * c.val + t.val) / 1024) n = (1024 * c.val + t.val) % 1024 then row X n j else 0
    rw [e1, e2]

end Kernel

/-! ## The references -/

theorem ragged_out (X : FVec Ideal ⟨2, ![4096, 512]⟩ .f32) (D : IVec ⟨2, ![4096, 1]⟩ 32) : Cert.RaggedRead.raggedV X D = sent X D := by
  funext i
  obtain ⟨q, j, rfl⟩ : ∃ (q : Fin 4096) (j : Fin 512), i = ix2 q j := ⟨i 0, i 1, eq_ix2 i⟩
  exact Cert.RaggedRead.raggedV_at X D q j

theorem literal_out (X : FVec Ideal ⟨2, ![4096, 512]⟩ .f32) (D : IVec ⟨2, ![4096, 1]⟩ 32) (i : (⟨2, ![4096, 512]⟩ : Shape).Idx)
    (h : Cert.On_balanced.fn X D i = 1#1) : Cert.LiteralRead.literalV X D i = sent X D i := by
  have hb := Cert.Pre.balanced_at X D i h
  obtain ⟨q, j, rfl⟩ : ∃ (q : Fin 4096) (j : Fin 512), i = ix2 q j := ⟨i 0, i 1, eq_ix2 i⟩
  exact Cert.LiteralRead.literalV_at X D hb q j

/-! ## The claims -/

theorem algebraic_ragged : Cert.algebraic_KernelIdeal_RaggedIdeal_pre_fits_KernelIdeal := fun m g m' g' hfit hagree =>
  ⟨sent (m' (((0 : Dev Cert.RaggedIdeal.nD).tc : Thread Cert.RaggedIdeal.nD Cert.RaggedIdeal.τ).loc Cert.RaggedIdeal.main_arg0))
      (m' (((0 : Dev Cert.RaggedIdeal.nD).tc : Thread Cert.RaggedIdeal.nD Cert.RaggedIdeal.τ).loc Cert.RaggedIdeal.main_arg1)),
    (θ_run Cert.KernelIdeal.defs _ _).mono (fun _ h c => ⟨(h.1 c).1.trans (kernel_out m g _ _ hfit (fun c => (hagree c).1) (fun c => (hagree c).2) c), (h.1 c).2⟩)
      (Cert.Frames.run_kernelIdeal m g),
    (θ_run Cert.RaggedIdeal.defs _ _).mono (fun _ h => ⟨(h 0).1.trans ((Cert.RaggedRead.res_eq m' 0).trans (ragged_out _ _)), (h 0).2⟩)
      (Cert.RaggedIdeal.Value.run (F := Ideal) m' g')⟩

theorem algebraic_literal : Cert.algebraic_KernelIdeal_ReferenceIdeal_on_balanced_pre_fits_KernelIdeal := fun m g m' g' hfit hagree =>
  ⟨sent (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨fun i _ => congrFun ((h.1 c).1.trans (kernel_out m g _ _ hfit (fun c => (hagree c).1) (fun c => (hagree c).2) c)) i, (h.1 c).2⟩)
      (Cert.Frames.run_kernelIdeal m g),
    (θ_run Cert.ReferenceIdeal.defs _ _).mono (fun _ h => ⟨fun i hi => (congrFun (h 0).1 i).trans (literal_out _ _ i hi), (h 0).2⟩)
      (Cert.ReferenceIdeal.Value.run (F := Ideal) m' g')⟩

end Cert.Agree

end
-- ==== Proof.lean ====
module
/-
# The proof of the claims
-/
public import proofs.«01_k».proof.Defs
public import proofs.«01_k».proof.Proof.Frames
public import proofs.«01_k».proof.Proof.Pre
public import proofs.«01_k».proof.Proof.Agree
public import proofs.«01_k».proof.Proof.Gen.Kernel
public import proofs.«01_k».proof.Proof.Gen.KernelIdeal
public import proofs.«01_k».proof.Proof.Gen.RaggedIdeal
public import proofs.«01_k».proof.Proof.Gen.ReferenceIdeal
public import proofs.«01_k».proof.Proof.Gen.RaggedIdeal.Run
public import proofs.«01_k».proof.Proof.Gen.ReferenceIdeal.Run

@[expose] public section

noncomputable section

namespace Cert.Proof

theorem claim : Cert.Claim :=
  ⟨Cert.Kernel.Gen.facts, Cert.KernelIdeal.Gen.facts, Cert.RaggedIdeal.Gen.facts, Cert.ReferenceIdeal.Gen.facts,
    Cert.Pre.kernelFits_facts, Cert.Pre.raggedFits_facts, Cert.Pre.balanced_facts,
    Cert.Frames.frame_kernel, Cert.Frames.frame_kernelIdeal, fun m ρ _ => Cert.Frames.frame_kernelIdeal m ρ trivial,
    Cert.Frames.frame_ragged, fun m ρ _ => Cert.Frames.frame_ragged m ρ trivial,
    Cert.Frames.frame_reference, fun m ρ _ => Cert.Frames.frame_reference m ρ trivial,
    trivial, Cert.Agree.algebraic_ragged, Cert.Agree.algebraic_literal⟩

end Cert.Proof

end
